-- ==== Defs.lean ====
def Pre_Moe [hPre_experts_exist : Cert.Pre_experts_exist.Facts] (m : (ℓ : Loc Cert.Moe.nD Cert.Moe.τ Cert.Moe.sig) → Buf (Elt Bits) ℓ) : Prop :=
  ∀ c : Dev Cert.Moe.nD,
    (Cert.Pre_experts_exist.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4))) = (fun _ => 1#1)

def Pre_MoeIdeal [hPre_experts_exist : Cert.Pre_experts_exist.Facts] (m : (ℓ : Loc Cert.MoeIdeal.nD Cert.MoeIdeal.τ Cert.MoeIdeal.sig) → Buf (Elt Ideal) ℓ) : Prop :=
  ∀ c : Dev Cert.MoeIdeal.nD,
    (Cert.Pre_experts_exist.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4))) = (fun _ => 1#1)

def Pre_MoeRefIdeal [hPre_experts_exist : Cert.Pre_experts_exist.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_experts_exist.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4))) = (fun _ => 1#1)

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseRefIdeal (m : (ℓ : Loc Cert.DenseRefIdeal.nD Cert.DenseRefIdeal.τ Cert.DenseRefIdeal.sig) → Buf (Elt Ideal) ℓ) : Prop :=
  True

def Pre_HgrnProj (m : (ℓ : Loc Cert.HgrnProj.nD Cert.HgrnProj.τ Cert.HgrnProj.sig) → Buf (Elt Bits) ℓ) : Prop :=
  True

def Pre_HgrnProjIdeal (m : (ℓ : Loc Cert.HgrnProjIdeal.nD Cert.HgrnProjIdeal.τ Cert.HgrnProjIdeal.sig) → Buf (Elt Ideal) ℓ) : Prop :=
  True

def Pre_HgrnProjRefIdeal (m : (ℓ : Loc Cert.HgrnProjRefIdeal.nD Cert.HgrnProjRefIdeal.τ Cert.HgrnProjRefIdeal.sig) → Buf (Elt Ideal) ℓ) : Prop :=
  True

def Pre_SwaProj (m : (ℓ : Loc Cert.SwaProj.nD Cert.SwaProj.τ Cert.SwaProj.sig) → Buf (Elt Bits) ℓ) : Prop :=
  True

def Pre_SwaProjIdeal (m : (ℓ : Loc Cert.SwaProjIdeal.nD Cert.SwaProjIdeal.τ Cert.SwaProjIdeal.sig) → Buf (Elt Ideal) ℓ) : Prop :=
  True

def Pre_SwaProjRefIdeal (m : (ℓ : Loc Cert.SwaProjRefIdeal.nD Cert.SwaProjRefIdeal.τ Cert.SwaProjRefIdeal.sig) → Buf (Elt Ideal) ℓ) : Prop :=
  True

def Pre_NsaProj (m : (ℓ : Loc Cert.NsaProj.nD Cert.NsaProj.τ Cert.NsaProj.sig) → Buf (Elt Bits) ℓ) : Prop :=
  True

def Pre_NsaProjIdeal (m : (ℓ : Loc Cert.NsaProjIdeal.nD Cert.NsaProjIdeal.τ Cert.NsaProjIdeal.sig) → Buf (Elt Ideal) ℓ) : Prop :=
  True

def Pre_NsaProjRefIdeal (m : (ℓ : Loc Cert.NsaProjRefIdeal.nD Cert.NsaProjRefIdeal.τ Cert.NsaProjRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaRefIdeal (m : (ℓ : Loc Cert.SwaRefIdeal.nD Cert.SwaRefIdeal.τ Cert.SwaRefIdeal.sig) → Buf (Elt Ideal) ℓ) : Prop :=
  True

def quiescent_Moe [hMoe : Cert.Moe.Facts] [hPre_experts_exist : Cert.Pre_experts_exist.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4))
      ∧ r.2.sem = fun _ => 0)

def quiescent_MoeIdeal [hMoeIdeal : Cert.MoeIdeal.Facts] [hPre_experts_exist : Cert.Pre_experts_exist.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4))
      ∧ r.2.sem = fun _ => 0)

def quiescent_MoeRefIdeal [hMoeRefIdeal : Cert.MoeRefIdeal.Facts] [hPre_experts_exist : Cert.Pre_experts_exist.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3)
      ∧ r.2.mem ((c.tc : Thread Cert.Dense.nD Cert.Dense.τ).loc Cert.Dense.main_arg4) = m ((c.tc : Thread Cert.Dense.nD Cert.Dense.τ).loc Cert.Dense.main_arg4))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4))
      ∧ r.2.sem = fun _ => 0)

def quiescent_DenseRefIdeal [hDenseRefIdeal : Cert.DenseRefIdeal.Facts] : Prop :=
  ∀ (m : (ℓ : Loc Cert.DenseRefIdeal.nD Cert.DenseRefIdeal.τ Cert.DenseRefIdeal.sig) → Buf (Elt Ideal) ℓ) (g : Dev Cert.DenseRefIdeal.nD → PrngReg), Pre_DenseRefIdeal m →
    θ_run (Cert.DenseRefIdeal.defs (F := Ideal)) (onTc (τ := Cert.DenseRefIdeal.τ) (Cert.DenseRefIdeal.main (F := Ideal))) ⟨m, fun _ => 0, g⟩ (fun r => (∀ c : Dev Cert.DenseRefIdeal.nD,
      r.2.mem ((c.tc : Thread Cert.DenseRefIdeal.nD Cert.DenseRefIdeal.τ).loc Cert.DenseRefIdeal.main_arg0) = m ((c.tc : Thread Cert.DenseRefIdeal.nD Cert.DenseRefIdeal.τ).loc Cert.DenseRefIdeal.main_arg0)
      ∧ r.2.mem ((c.tc : Thread Cert.DenseRefIdeal.nD Cert.DenseRefIdeal.τ).loc Cert.DenseRefIdeal.main_arg1) = m ((c.tc : Thread Cert.DenseRefIdeal.nD Cert.DenseRefIdeal.τ).loc Cert.DenseRefIdeal.main_arg1)
      ∧ r.2.mem ((c.tc : Thread Cert.DenseRefIdeal.nD Cert.DenseRefIdeal.τ).loc Cert.DenseRefIdeal.main_arg2) = m ((c.tc : Thread Cert.DenseRefIdeal.nD Cert.DenseRefIdeal.τ).loc Cert.DenseRefIdeal.main_arg2)
      ∧ r.2.mem ((c.tc : Thread Cert.DenseRefIdeal.nD Cert.DenseRefIdeal.τ).loc Cert.DenseRefIdeal.main_arg3) = m ((c.tc : Thread Cert.DenseRefIdeal.nD Cert.DenseRefIdeal.τ).loc Cert.DenseRefIdeal.main_arg3)
      ∧ r.2.mem ((c.tc : Thread Cert.DenseRefIdeal.nD Cert.DenseRefIdeal.τ).loc Cert.DenseRefIdeal.main_arg4) = m ((c.tc : Thread Cert.DenseRefIdeal.nD Cert.DenseRefIdeal.τ).loc Cert.DenseRefIdeal.main_arg4))
      ∧ r.2.sem = fun _ => 0)

def quiescent_HgrnProj [hHgrnProj : Cert.HgrnProj.Facts] : Prop :=
  ∀ (m : (ℓ : Loc Cert.HgrnProj.nD Cert.HgrnProj.τ Cert.HgrnProj.sig) → Buf (Elt Bits) ℓ) (g : Dev Cert.HgrnProj.nD → PrngReg), Pre_HgrnProj m →
    θ_run (Cert.HgrnProj.defs (F := Bits)) (onTc (τ := Cert.HgrnProj.τ) (Cert.HgrnProj.main (F := Bits))) ⟨m, fun _ => 0, g⟩ (fun r => (∀ c : Dev Cert.HgrnProj.nD,
      r.2.mem ((c.tc : Thread Cert.HgrnProj.nD Cert.HgrnProj.τ).loc Cert.HgrnProj.main_arg0) = m ((c.tc : Thread Cert.HgrnProj.nD Cert.HgrnProj.τ).loc Cert.HgrnProj.main_arg0)
      ∧ r.2.mem ((c.tc : Thread Cert.HgrnProj.nD Cert.HgrnProj.τ).loc Cert.HgrnProj.main_arg1) = m ((c.tc : Thread Cert.HgrnProj.nD Cert.HgrnProj.τ).loc Cert.HgrnProj.main_arg1))
      ∧ r.2.sem = fun _ => 0)

def quiescent_HgrnProjIdeal [hHgrnProjIdeal : Cert.HgrnProjIdeal.Facts] : Prop :=
  ∀ (m : (ℓ : Loc Cert.HgrnProjIdeal.nD Cert.HgrnProjIdeal.τ Cert.HgrnProjIdeal.sig) → Buf (Elt Ideal) ℓ) (g : Dev Cert.HgrnProjIdeal.nD → PrngReg), Pre_HgrnProjIdeal m →
    θ_run (Cert.HgrnProjIdeal.defs (F := Ideal)) (onTc (τ := Cert.HgrnProjIdeal.τ) (Cert.HgrnProjIdeal.main (F := Ideal))) ⟨m, fun _ => 0, g⟩ (fun r => (∀ c : Dev Cert.HgrnProjIdeal.nD,
      r.2.mem ((c.tc : Thread Cert.HgrnProjIdeal.nD Cert.HgrnProjIdeal.τ).loc Cert.HgrnProjIdeal.main_arg0) = m ((c.tc : Thread Cert.HgrnProjIdeal.nD Cert.HgrnProjIdeal.τ).loc Cert.HgrnProjIdeal.main_arg0)
      ∧ r.2.mem ((c.tc : Thread Cert.HgrnProjIdeal.nD Cert.HgrnProjIdeal.τ).loc Cert.HgrnProjIdeal.main_arg1) = m ((c.tc : Thread Cert.HgrnProjIdeal.nD Cert.HgrnProjIdeal.τ).loc Cert.HgrnProjIdeal.main_arg1))
      ∧ r.2.sem = fun _ => 0)

def quiescent_HgrnProjRefIdeal [hHgrnProjRefIdeal : Cert.HgrnProjRefIdeal.Facts] : Prop :=
  ∀ (m : (ℓ : Loc Cert.HgrnProjRefIdeal.nD Cert.HgrnProjRefIdeal.τ Cert.HgrnProjRefIdeal.sig) → Buf (Elt Ideal) ℓ) (g : Dev Cert.HgrnProjRefIdeal.nD → PrngReg), Pre_HgrnProjRefIdeal m →
    θ_run (Cert.HgrnProjRefIdeal.defs (F := Ideal)) (onTc (τ := Cert.HgrnProjRefIdeal.τ) (Cert.HgrnProjRefIdeal.main (F := Ideal))) ⟨m, fun _ => 0, g⟩ (fun r => (∀ c : Dev Cert.HgrnProjRefIdeal.nD,
      r.2.mem ((c.tc : Thread Cert.HgrnProjRefIdeal.nD Cert.HgrnProjRefIdeal.τ).loc Cert.HgrnProjRefIdeal.main_arg0) = m ((c.tc : Thread Cert.HgrnProjRefIdeal.nD Cert.HgrnProjRefIdeal.τ).loc Cert.HgrnProjRefIdeal.main_arg0)
      ∧ r.2.mem ((c.tc : Thread Cert.HgrnProjRefIdeal.nD Cert.HgrnProjRefIdeal.τ).loc Cert.HgrnProjRefIdeal.main_arg1) = m ((c.tc : Thread Cert.HgrnProjRefIdeal.nD Cert.HgrnProjRefIdeal.τ).loc Cert.HgrnProjRefIdeal.main_arg1))
      ∧ r.2.sem = fun _ => 0)

def quiescent_SwaProj [hSwaProj : Cert.SwaProj.Facts] : Prop :=
  ∀ (m : (ℓ : Loc Cert.SwaProj.nD Cert.SwaProj.τ Cert.SwaProj.sig) → Buf (Elt Bits) ℓ) (g : Dev Cert.SwaProj.nD → PrngReg), Pre_SwaProj m →
    θ_run (Cert.SwaProj.defs (F := Bits)) (onTc (τ := Cert.SwaProj.τ) (Cert.SwaProj.main (F := Bits))) ⟨m, fun _ => 0, g⟩ (fun r => (∀ c : Dev Cert.SwaProj.nD,
      r.2.mem ((c.tc : Thread Cert.SwaProj.nD Cert.SwaProj.τ).loc Cert.SwaProj.main_arg0) = m ((c.tc : Thread Cert.SwaProj.nD Cert.SwaProj.τ).loc Cert.SwaProj.main_arg0)
      ∧ r.2.mem ((c.tc : Thread Cert.SwaProj.nD Cert.SwaProj.τ).loc Cert.SwaProj.main_arg1) = m ((c.tc : Thread Cert.SwaProj.nD Cert.SwaProj.τ).loc Cert.SwaProj.main_arg1))
      ∧ r.2.sem = fun _ => 0)

def quiescent_SwaProjIdeal [hSwaProjIdeal : Cert.SwaProjIdeal.Facts] : Prop :=
  ∀ (m : (ℓ : Loc Cert.SwaProjIdeal.nD Cert.SwaProjIdeal.τ Cert.SwaProjIdeal.sig) → Buf (Elt Ideal) ℓ) (g : Dev Cert.SwaProjIdeal.nD → PrngReg), Pre_SwaProjIdeal m →
    θ_run (Cert.SwaProjIdeal.defs (F := Ideal)) (onTc (τ := Cert.SwaProjIdeal.τ) (Cert.SwaProjIdeal.main (F := Ideal))) ⟨m, fun _ => 0, g⟩ (fun r => (∀ c : Dev Cert.SwaProjIdeal.nD,
      r.2.mem ((c.tc : Thread Cert.SwaProjIdeal.nD Cert.SwaProjIdeal.τ).loc Cert.SwaProjIdeal.main_arg0) = m ((c.tc : Thread Cert.SwaProjIdeal.nD Cert.SwaProjIdeal.τ).loc Cert.SwaProjIdeal.main_arg0)
      ∧ r.2.mem ((c.tc : Thread Cert.SwaProjIdeal.nD Cert.SwaProjIdeal.τ).loc Cert.SwaProjIdeal.main_arg1) = m ((c.tc : Thread Cert.SwaProjIdeal.nD Cert.SwaProjIdeal.τ).loc Cert.SwaProjIdeal.main_arg1))
      ∧ r.2.sem = fun _ => 0)

def quiescent_SwaProjRefIdeal [hSwaProjRefIdeal : Cert.SwaProjRefIdeal.Facts] : Prop :=
  ∀ (m : (ℓ : Loc Cert.SwaProjRefIdeal.nD Cert.SwaProjRefIdeal.τ Cert.SwaProjRefIdeal.sig) → Buf (Elt Ideal) ℓ) (g : Dev Cert.SwaProjRefIdeal.nD → PrngReg), Pre_SwaProjRefIdeal m →
    θ_run (Cert.SwaProjRefIdeal.defs (F := Ideal)) (onTc (τ := Cert.SwaProjRefIdeal.τ) (Cert.SwaProjRefIdeal.main (F := Ideal))) ⟨m, fun _ => 0, g⟩ (fun r => (∀ c : Dev Cert.SwaProjRefIdeal.nD,
      r.2.mem ((c.tc : Thread Cert.SwaProjRefIdeal.nD Cert.SwaProjRefIdeal.τ).loc Cert.SwaProjRefIdeal.main_arg0) = m ((c.tc : Thread Cert.SwaProjRefIdeal.nD Cert.SwaProjRefIdeal.τ).loc Cert.SwaProjRefIdeal.main_arg0)
      ∧ r.2.mem ((c.tc : Thread Cert.SwaProjRefIdeal.nD Cert.SwaProjRefIdeal.τ).loc Cert.SwaProjRefIdeal.main_arg1) = m ((c.tc : Thread Cert.SwaProjRefIdeal.nD Cert.SwaProjRefIdeal.τ).loc Cert.SwaProjRefIdeal.main_arg1))
      ∧ r.2.sem = fun _ => 0)

def quiescent_NsaProj [hNsaProj : Cert.NsaProj.Facts] : Prop :=
  ∀ (m : (ℓ : Loc Cert.NsaProj.nD Cert.NsaProj.τ Cert.NsaProj.sig) → Buf (Elt Bits) ℓ) (g : Dev Cert.NsaProj.nD → PrngReg), Pre_NsaProj m →
    θ_run (Cert.NsaProj.defs (F := Bits)) (onTc (τ := Cert.NsaProj.τ) (Cert.NsaProj.main (F := Bits))) ⟨m, fun _ => 0, g⟩ (fun r => (∀ c : Dev Cert.NsaProj.nD,
      r.2.mem ((c.tc : Thread Cert.NsaProj.nD Cert.NsaProj.τ).loc Cert.NsaProj.main_arg0) = m ((c.tc : Thread Cert.NsaProj.nD Cert.NsaProj.τ).loc Cert.NsaProj.main_arg0)
      ∧ r.2.mem ((c.tc : Thread Cert.NsaProj.nD Cert.NsaProj.τ).loc Cert.NsaProj.main_arg1) = m ((c.tc : Thread Cert.NsaProj.nD Cert.NsaProj.τ).loc Cert.NsaProj.main_arg1))
      ∧ r.2.sem = fun _ => 0)

def quiescent_NsaProjIdeal [hNsaProjIdeal : Cert.NsaProjIdeal.Facts] : Prop :=
  ∀ (m : (ℓ : Loc Cert.NsaProjIdeal.nD Cert.NsaProjIdeal.τ Cert.NsaProjIdeal.sig) → Buf (Elt Ideal) ℓ) (g : Dev Cert.NsaProjIdeal.nD → PrngReg), Pre_NsaProjIdeal m →
    θ_run (Cert.NsaProjIdeal.defs (F := Ideal)) (onTc (τ := Cert.NsaProjIdeal.τ) (Cert.NsaProjIdeal.main (F := Ideal))) ⟨m, fun _ => 0, g⟩ (fun r => (∀ c : Dev Cert.NsaProjIdeal.nD,
      r.2.mem ((c.tc : Thread Cert.NsaProjIdeal.nD Cert.NsaProjIdeal.τ).loc Cert.NsaProjIdeal.main_arg0) = m ((c.tc : Thread Cert.NsaProjIdeal.nD Cert.NsaProjIdeal.τ).loc Cert.NsaProjIdeal.main_arg0)
      ∧ r.2.mem ((c.tc : Thread Cert.NsaProjIdeal.nD Cert.NsaProjIdeal.τ).loc Cert.NsaProjIdeal.main_arg1) = m ((c.tc : Thread Cert.NsaProjIdeal.nD Cert.NsaProjIdeal.τ).loc Cert.NsaProjIdeal.main_arg1))
      ∧ r.2.sem = fun _ => 0)

def quiescent_NsaProjRefIdeal [hNsaProjRefIdeal : Cert.NsaProjRefIdeal.Facts] : Prop :=
  ∀ (m : (ℓ : Loc Cert.NsaProjRefIdeal.nD Cert.NsaProjRefIdeal.τ Cert.NsaProjRefIdeal.sig) → Buf (Elt Ideal) ℓ) (g : Dev Cert.NsaProjRefIdeal.nD → PrngReg), Pre_NsaProjRefIdeal m →
    θ_run (Cert.NsaProjRefIdeal.defs (F := Ideal)) (onTc (τ := Cert.NsaProjRefIdeal.τ) (Cert.NsaProjRefIdeal.main (F := Ideal))) ⟨m, fun _ => 0, g⟩ (fun r => (∀ c : Dev Cert.NsaProjRefIdeal.nD,
      r.2.mem ((c.tc : Thread Cert.NsaProjRefIdeal.nD Cert.NsaProjRefIdeal.τ).loc Cert.NsaProjRefIdeal.main_arg0) = m ((c.tc : Thread Cert.NsaProjRefIdeal.nD Cert.NsaProjRefIdeal.τ).loc Cert.NsaProjRefIdeal.main_arg0)
      ∧ r.2.mem ((c.tc : Thread Cert.NsaProjRefIdeal.nD Cert.NsaProjRefIdeal.τ).loc Cert.NsaProjRefIdeal.main_arg1) = m ((c.tc : Thread Cert.NsaProjRefIdeal.nD Cert.NsaProjRefIdeal.τ).loc Cert.NsaProjRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1)
      ∧ r.2.mem ((c.tc : Thread Cert.Swa.nD Cert.Swa.τ).loc Cert.Swa.main_arg2) = m ((c.tc : Thread Cert.Swa.nD Cert.Swa.τ).loc Cert.Swa.main_arg2)
      ∧ r.2.mem ((c.tc : Thread Cert.Swa.nD Cert.Swa.τ).loc Cert.Swa.main_arg3) = m ((c.tc : Thread Cert.Swa.nD Cert.Swa.τ).loc Cert.Swa.main_arg3))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
      ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3))
      ∧ r.2.sem = fun _ => 0)

def quiescent_SwaRefIdeal [hSwaRefIdeal : Cert.SwaRefIdeal.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2)
      ∧ r.2.mem ((c.tc : Thread Cert.SwaRefIdeal.nD Cert.SwaRefIdeal.τ).loc Cert.SwaRefIdeal.main_arg3) = m ((c.tc : Thread Cert.SwaRefIdeal.nD Cert.SwaRefIdeal.τ).loc Cert.SwaRefIdeal.main_arg3))
      ∧ r.2.sem = fun _ => 0)

def preserves_Moe_MoeIdeal : Prop :=
  True

def algebraic_MoeIdeal_MoeRefIdeal [hMoeIdeal : Cert.MoeIdeal.Facts] [hMoeRefIdeal : Cert.MoeRefIdeal.Facts] [hPre_experts_exist : Cert.Pre_experts_exist.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)) →
    ∃ (v0 : (c : Dev Cert.MoeIdeal.nD) → Buf (Elt Ideal) ((c.tc : Thread Cert.MoeIdeal.nD Cert.MoeIdeal.τ).loc Cert.MoeIdeal.main_v2)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v2) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v123) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4))

def preserves_Dense_DenseIdeal : Prop :=
  True

def algebraic_DenseIdeal_DenseRefIdeal [hDenseIdeal : Cert.DenseIdeal.Facts] [hDenseRefIdeal : Cert.DenseRefIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseRefIdeal.nD Cert.DenseRefIdeal.τ Cert.DenseRefIdeal.sig) → Buf (Elt Ideal) ℓ) (g' : Dev Cert.DenseRefIdeal.nD → PrngReg), Pre_DenseIdeal m →
    (∀ c : Dev Cert.DenseIdeal.nD,
      m' ((c.tc : Thread Cert.DenseRefIdeal.nD Cert.DenseRefIdeal.τ).loc Cert.DenseRefIdeal.main_arg0) = m ((c.tc : Thread Cert.DenseIdeal.nD Cert.DenseIdeal.τ).loc Cert.DenseIdeal.main_arg0)
      ∧ m' ((c.tc : Thread Cert.DenseRefIdeal.nD Cert.DenseRefIdeal.τ).loc Cert.DenseRefIdeal.main_arg1) = m ((c.tc : Thread Cert.DenseIdeal.nD Cert.DenseIdeal.τ).loc Cert.DenseIdeal.main_arg1)
      ∧ m' ((c.tc : Thread Cert.DenseRefIdeal.nD Cert.DenseRefIdeal.τ).loc Cert.DenseRefIdeal.main_arg2) = m ((c.tc : Thread Cert.DenseIdeal.nD Cert.DenseIdeal.τ).loc Cert.DenseIdeal.main_arg2)
      ∧ m' ((c.tc : Thread Cert.DenseRefIdeal.nD Cert.DenseRefIdeal.τ).loc Cert.DenseRefIdeal.main_arg3) = m ((c.tc : Thread Cert.DenseIdeal.nD Cert.DenseIdeal.τ).loc Cert.DenseIdeal.main_arg3)
      ∧ m' ((c.tc : Thread Cert.DenseRefIdeal.nD Cert.DenseRefIdeal.τ).loc Cert.DenseRefIdeal.main_arg4) = m ((c.tc : Thread Cert.DenseIdeal.nD Cert.DenseIdeal.τ).loc Cert.DenseIdeal.main_arg4)) →
    ∃ (v0 : (c : Dev Cert.DenseIdeal.nD) → Buf (Elt Ideal) ((c.tc : Thread Cert.DenseIdeal.nD Cert.DenseIdeal.τ).loc Cert.DenseIdeal.main_v2)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v2) = v0 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
          ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4))
      ∧ θ_run (Cert.DenseRefIdeal.defs (F := Ideal)) (onTc (τ := Cert.DenseRefIdeal.τ) (Cert.DenseRefIdeal.main (F := Ideal))) ⟨m', fun _ => 0, g'⟩ (fun r => ∀ c : Dev Cert.DenseRefIdeal.nD,
          r.2.mem ((c.tc : Thread Cert.DenseRefIdeal.nD Cert.DenseRefIdeal.τ).loc Cert.DenseRefIdeal.main_v19) = v0 c
          ∧ r.2.mem ((c.tc : Thread Cert.DenseRefIdeal.nD Cert.DenseRefIdeal.τ).loc Cert.DenseRefIdeal.main_arg0) = m' ((c.tc : Thread Cert.DenseRefIdeal.nD Cert.DenseRefIdeal.τ).loc Cert.DenseRefIdeal.main_arg0)
          ∧ r.2.mem ((c.tc : Thread Cert.DenseRefIdeal.nD Cert.DenseRefIdeal.τ).loc Cert.DenseRefIdeal.main_arg1) = m' ((c.tc : Thread Cert.DenseRefIdeal.nD Cert.DenseRefIdeal.τ).loc Cert.DenseRefIdeal.main_arg1)
          ∧ r.2.mem ((c.tc : Thread Cert.DenseRefIdeal.nD Cert.DenseRefIdeal.τ).loc Cert.DenseRefIdeal.main_arg2) = m' ((c.tc : Thread Cert.DenseRefIdeal.nD Cert.DenseRefIdeal.τ).loc Cert.DenseRefIdeal.main_arg2)
          ∧ r.2.mem ((c.tc : Thread Cert.DenseRefIdeal.nD Cert.DenseRefIdeal.τ).loc Cert.DenseRefIdeal.main_arg3) = m' ((c.tc : Thread Cert.DenseRefIdeal.nD Cert.DenseRefIdeal.τ).loc Cert.DenseRefIdeal.main_arg3)
          ∧ r.2.mem ((c.tc : Thread Cert.DenseRefIdeal.nD Cert.DenseRefIdeal.τ).loc Cert.DenseRefIdeal.main_arg4) = m' ((c.tc : Thread Cert.DenseRefIdeal.nD Cert.DenseRefIdeal.τ).loc Cert.DenseRefIdeal.main_arg4))

def preserves_HgrnProj_HgrnProjIdeal : Prop :=
  True

def algebraic_HgrnProjIdeal_HgrnProjRefIdeal [hHgrnProjIdeal : Cert.HgrnProjIdeal.Facts] [hHgrnProjRefIdeal : Cert.HgrnProjRefIdeal.Facts] : Prop :=
  ∀ (m : (ℓ : Loc Cert.HgrnProjIdeal.nD Cert.HgrnProjIdeal.τ Cert.HgrnProjIdeal.sig) → Buf (Elt Ideal) ℓ) (g : Dev Cert.HgrnProjIdeal.nD → PrngReg)
    (m' : (ℓ : Loc Cert.HgrnProjRefIdeal.nD Cert.HgrnProjRefIdeal.τ Cert.HgrnProjRefIdeal.sig) → Buf (Elt Ideal) ℓ) (g' : Dev Cert.HgrnProjRefIdeal.nD → PrngReg), Pre_HgrnProjIdeal m →
    (∀ c : Dev Cert.HgrnProjIdeal.nD,
      m' ((c.tc : Thread Cert.HgrnProjRefIdeal.nD Cert.HgrnProjRefIdeal.τ).loc Cert.HgrnProjRefIdeal.main_arg0) = m ((c.tc : Thread Cert.HgrnProjIdeal.nD Cert.HgrnProjIdeal.τ).loc Cert.HgrnProjIdeal.main_arg0)
      ∧ m' ((c.tc : Thread Cert.HgrnProjRefIdeal.nD Cert.HgrnProjRefIdeal.τ).loc Cert.HgrnProjRefIdeal.main_arg1) = m ((c.tc : Thread Cert.HgrnProjIdeal.nD Cert.HgrnProjIdeal.τ).loc Cert.HgrnProjIdeal.main_arg1)) →
    ∃ (v0 : (c : Dev Cert.HgrnProjIdeal.nD) → Buf (Elt Ideal) ((c.tc : Thread Cert.HgrnProjIdeal.nD Cert.HgrnProjIdeal.τ).loc Cert.HgrnProjIdeal.main_v1)),
      θ_run (Cert.HgrnProjIdeal.defs (F := Ideal)) (onTc (τ := Cert.HgrnProjIdeal.τ) (Cert.HgrnProjIdeal.main (F := Ideal))) ⟨m, fun _ => 0, g⟩ (fun r => ∀ c : Dev Cert.HgrnProjIdeal.nD,
          r.2.mem ((c.tc : Thread Cert.HgrnProjIdeal.nD Cert.HgrnProjIdeal.τ).loc Cert.HgrnProjIdeal.main_v1) = v0 c
          ∧ r.2.mem ((c.tc : Thread Cert.HgrnProjIdeal.nD Cert.HgrnProjIdeal.τ).loc Cert.HgrnProjIdeal.main_arg0) = m ((c.tc : Thread Cert.HgrnProjIdeal.nD Cert.HgrnProjIdeal.τ).loc Cert.HgrnProjIdeal.main_arg0)
          ∧ r.2.mem ((c.tc : Thread Cert.HgrnProjIdeal.nD Cert.HgrnProjIdeal.τ).loc Cert.HgrnProjIdeal.main_arg1) = m ((c.tc : Thread Cert.HgrnProjIdeal.nD Cert.HgrnProjIdeal.τ).loc Cert.HgrnProjIdeal.main_arg1))
      ∧ θ_run (Cert.HgrnProjRefIdeal.defs (F := Ideal)) (onTc (τ := Cert.HgrnProjRefIdeal.τ) (Cert.HgrnProjRefIdeal.main (F := Ideal))) ⟨m', fun _ => 0, g'⟩ (fun r => ∀ c : Dev Cert.HgrnProjRefIdeal.nD,
          r.2.mem ((c.tc : Thread Cert.HgrnProjRefIdeal.nD Cert.HgrnProjRefIdeal.τ).loc Cert.HgrnProjRefIdeal.main_v1) = v0 c
          ∧ r.2.mem ((c.tc : Thread Cert.HgrnProjRefIdeal.nD Cert.HgrnProjRefIdeal.τ).loc Cert.HgrnProjRefIdeal.main_arg0) = m' ((c.tc : Thread Cert.HgrnProjRefIdeal.nD Cert.HgrnProjRefIdeal.τ).loc Cert.HgrnProjRefIdeal.main_arg0)
          ∧ r.2.mem ((c.tc : Thread Cert.HgrnProjRefIdeal.nD Cert.HgrnProjRefIdeal.τ).loc Cert.HgrnProjRefIdeal.main_arg1) = m' ((c.tc : Thread Cert.HgrnProjRefIdeal.nD Cert.HgrnProjRefIdeal.τ).loc Cert.HgrnProjRefIdeal.main_arg1))

def preserves_SwaProj_SwaProjIdeal : Prop :=
  True

def algebraic_SwaProjIdeal_SwaProjRefIdeal [hSwaProjIdeal : Cert.SwaProjIdeal.Facts] [hSwaProjRefIdeal : Cert.SwaProjRefIdeal.Facts] : Prop :=
  ∀ (m : (ℓ : Loc Cert.SwaProjIdeal.nD Cert.SwaProjIdeal.τ Cert.SwaProjIdeal.sig) → Buf (Elt Ideal) ℓ) (g : Dev Cert.SwaProjIdeal.nD → PrngReg)
    (m' : (ℓ : Loc Cert.SwaProjRefIdeal.nD Cert.SwaProjRefIdeal.τ Cert.SwaProjRefIdeal.sig) → Buf (Elt Ideal) ℓ) (g' : Dev Cert.SwaProjRefIdeal.nD → PrngReg), Pre_SwaProjIdeal m →
    (∀ c : Dev Cert.SwaProjIdeal.nD,
      m' ((c.tc : Thread Cert.SwaProjRefIdeal.nD Cert.SwaProjRefIdeal.τ).loc Cert.SwaProjRefIdeal.main_arg0) = m ((c.tc : Thread Cert.SwaProjIdeal.nD Cert.SwaProjIdeal.τ).loc Cert.SwaProjIdeal.main_arg0)
      ∧ m' ((c.tc : Thread Cert.SwaProjRefIdeal.nD Cert.SwaProjRefIdeal.τ).loc Cert.SwaProjRefIdeal.main_arg1) = m ((c.tc : Thread Cert.SwaProjIdeal.nD Cert.SwaProjIdeal.τ).loc Cert.SwaProjIdeal.main_arg1)) →
    ∃ (v0 : (c : Dev Cert.SwaProjIdeal.nD) → Buf (Elt Ideal) ((c.tc : Thread Cert.SwaProjIdeal.nD Cert.SwaProjIdeal.τ).loc Cert.SwaProjIdeal.main_v1)),
      θ_run (Cert.SwaProjIdeal.defs (F := Ideal)) (onTc (τ := Cert.SwaProjIdeal.τ) (Cert.SwaProjIdeal.main (F := Ideal))) ⟨m, fun _ => 0, g⟩ (fun r => ∀ c : Dev Cert.SwaProjIdeal.nD,
          r.2.mem ((c.tc : Thread Cert.SwaProjIdeal.nD Cert.SwaProjIdeal.τ).loc Cert.SwaProjIdeal.main_v1) = v0 c
          ∧ r.2.mem ((c.tc : Thread Cert.SwaProjIdeal.nD Cert.SwaProjIdeal.τ).loc Cert.SwaProjIdeal.main_arg0) = m ((c.tc : Thread Cert.SwaProjIdeal.nD Cert.SwaProjIdeal.τ).loc Cert.SwaProjIdeal.main_arg0)
          ∧ r.2.mem ((c.tc : Thread Cert.SwaProjIdeal.nD Cert.SwaProjIdeal.τ).loc Cert.SwaProjIdeal.main_arg1) = m ((c.tc : Thread Cert.SwaProjIdeal.nD Cert.SwaProjIdeal.τ).loc Cert.SwaProjIdeal.main_arg1))
      ∧ θ_run (Cert.SwaProjRefIdeal.defs (F := Ideal)) (onTc (τ := Cert.SwaProjRefIdeal.τ) (Cert.SwaProjRefIdeal.main (F := Ideal))) ⟨m', fun _ => 0, g'⟩ (fun r => ∀ c : Dev Cert.SwaProjRefIdeal.nD,
          r.2.mem ((c.tc : Thread Cert.SwaProjRefIdeal.nD Cert.SwaProjRefIdeal.τ).loc Cert.SwaProjRefIdeal.main_v1) = v0 c
          ∧ r.2.mem ((c.tc : Thread Cert.SwaProjRefIdeal.nD Cert.SwaProjRefIdeal.τ).loc Cert.SwaProjRefIdeal.main_arg0) = m' ((c.tc : Thread Cert.SwaProjRefIdeal.nD Cert.SwaProjRefIdeal.τ).loc Cert.SwaProjRefIdeal.main_arg0)
          ∧ r.2.mem ((c.tc : Thread Cert.SwaProjRefIdeal.nD Cert.SwaProjRefIdeal.τ).loc Cert.SwaProjRefIdeal.main_arg1) = m' ((c.tc : Thread Cert.SwaProjRefIdeal.nD Cert.SwaProjRefIdeal.τ).loc Cert.SwaProjRefIdeal.main_arg1))

def preserves_NsaProj_NsaProjIdeal : Prop :=
  True

def algebraic_NsaProjIdeal_NsaProjRefIdeal [hNsaProjIdeal : Cert.NsaProjIdeal.Facts] [hNsaProjRefIdeal : Cert.NsaProjRefIdeal.Facts] : Prop :=
  ∀ (m : (ℓ : Loc Cert.NsaProjIdeal.nD Cert.NsaProjIdeal.τ Cert.NsaProjIdeal.sig) → Buf (Elt Ideal) ℓ) (g : Dev Cert.NsaProjIdeal.nD → PrngReg)
    (m' : (ℓ : Loc Cert.NsaProjRefIdeal.nD Cert.NsaProjRefIdeal.τ Cert.NsaProjRefIdeal.sig) → Buf (Elt Ideal) ℓ) (g' : Dev Cert.NsaProjRefIdeal.nD → PrngReg), Pre_NsaProjIdeal m →
    (∀ c : Dev Cert.NsaProjIdeal.nD,
      m' ((c.tc : Thread Cert.NsaProjRefIdeal.nD Cert.NsaProjRefIdeal.τ).loc Cert.NsaProjRefIdeal.main_arg0) = m ((c.tc : Thread Cert.NsaProjIdeal.nD Cert.NsaProjIdeal.τ).loc Cert.NsaProjIdeal.main_arg0)
      ∧ m' ((c.tc : Thread Cert.NsaProjRefIdeal.nD Cert.NsaProjRefIdeal.τ).loc Cert.NsaProjRefIdeal.main_arg1) = m ((c.tc : Thread Cert.NsaProjIdeal.nD Cert.NsaProjIdeal.τ).loc Cert.NsaProjIdeal.main_arg1)) →
    ∃ (v0 : (c : Dev Cert.NsaProjIdeal.nD) → Buf (Elt Ideal) ((c.tc : Thread Cert.NsaProjIdeal.nD Cert.NsaProjIdeal.τ).loc Cert.NsaProjIdeal.main_v1)),
      θ_run (Cert.NsaProjIdeal.defs (F := Ideal)) (onTc (τ := Cert.NsaProjIdeal.τ) (Cert.NsaProjIdeal.main (F := Ideal))) ⟨m, fun _ => 0, g⟩ (fun r => ∀ c : Dev Cert.NsaProjIdeal.nD,
          r.2.mem ((c.tc : Thread Cert.NsaProjIdeal.nD Cert.NsaProjIdeal.τ).loc Cert.NsaProjIdeal.main_v1) = v0 c
          ∧ r.2.mem ((c.tc : Thread Cert.NsaProjIdeal.nD Cert.NsaProjIdeal.τ).loc Cert.NsaProjIdeal.main_arg0) = m ((c.tc : Thread Cert.NsaProjIdeal.nD Cert.NsaProjIdeal.τ).loc Cert.NsaProjIdeal.main_arg0)
          ∧ r.2.mem ((c.tc : Thread Cert.NsaProjIdeal.nD Cert.NsaProjIdeal.τ).loc Cert.NsaProjIdeal.main_arg1) = m ((c.tc : Thread Cert.NsaProjIdeal.nD Cert.NsaProjIdeal.τ).loc Cert.NsaProjIdeal.main_arg1))
      ∧ θ_run (Cert.NsaProjRefIdeal.defs (F := Ideal)) (onTc (τ := Cert.NsaProjRefIdeal.τ) (Cert.NsaProjRefIdeal.main (F := Ideal))) ⟨m', fun _ => 0, g'⟩ (fun r => ∀ c : Dev Cert.NsaProjRefIdeal.nD,
          r.2.mem ((c.tc : Thread Cert.NsaProjRefIdeal.nD Cert.NsaProjRefIdeal.τ).loc Cert.NsaProjRefIdeal.main_v1) = v0 c
          ∧ r.2.mem ((c.tc : Thread Cert.NsaProjRefIdeal.nD Cert.NsaProjRefIdeal.τ).loc Cert.NsaProjRefIdeal.main_arg0) = m' ((c.tc : Thread Cert.NsaProjRefIdeal.nD Cert.NsaProjRefIdeal.τ).loc Cert.NsaProjRefIdeal.main_arg0)
          ∧ r.2.mem ((c.tc : Thread Cert.NsaProjRefIdeal.nD Cert.NsaProjRefIdeal.τ).loc Cert.NsaProjRefIdeal.main_arg1) = m' ((c.tc : Thread Cert.NsaProjRefIdeal.nD Cert.NsaProjRefIdeal.τ).loc Cert.NsaProjRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v14) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Swa_SwaIdeal : Prop :=
  IdealRules.named_const.Statement Cert.SwaIdeal.κ "slope1" .f32 0x3F5744FD#32 (((Real.sqrt (Real.sqrt 2))⁻¹ : ℝ) : EReal)
  ∧ IdealRules.named_const.Statement Cert.SwaIdeal.κ "mask" .f32 0xF149F2CA#32 ⊥
  ∧ IdealRules.named_const.Statement Cert.SwaIdeal.κ "slope2" .f32 0x3F3504F3#32 (((Real.sqrt (Real.sqrt 4))⁻¹ : ℝ) : EReal)
  ∧ IdealRules.named_const.Statement Cert.SwaIdeal.κ "slope3" .f32 0x3F1837F0#32 (((Real.sqrt (Real.sqrt 8))⁻¹ : ℝ) : EReal)
  ∧ IdealRules.named_const.Statement Cert.SwaIdeal.κ "slope5" .f32 0x3ED744FD#32 (((Real.sqrt (Real.sqrt 32))⁻¹ : ℝ) : EReal)
  ∧ IdealRules.named_const.Statement Cert.SwaIdeal.κ "slope6" .f32 0x3EB504F3#32 (((Real.sqrt (Real.sqrt 64))⁻¹ : ℝ) : EReal)
  ∧ IdealRules.named_const.Statement Cert.SwaIdeal.κ "slope7" .f32 0x3E9837F0#32 (((Real.sqrt (Real.sqrt 128))⁻¹ : ℝ) : EReal)
  ∧ IdealRules.named_const.Statement Cert.SwaIdeal.κ "slope9" .f32 0x3E5744FD#32 (((Real.sqrt (Real.sqrt 512))⁻¹ : ℝ) : EReal)
  ∧ IdealRules.named_const.Statement Cert.SwaIdeal.κ "slope10" .f32 0x3E3504F3#32 (((Real.sqrt (Real.sqrt 1024))⁻¹ : ℝ) : EReal)
  ∧ IdealRules.named_const.Statement Cert.SwaIdeal.κ "slope11" .f32 0x3E1837F0#32 (((Real.sqrt (Real.sqrt 2048))⁻¹ : ℝ) : EReal)
  ∧ IdealRules.named_const.Statement Cert.SwaIdeal.κ "slope13" .f32 0x3DD744FD#32 (((Real.sqrt (Real.sqrt 8192))⁻¹ : ℝ) : EReal)
  ∧ IdealRules.named_const.Statement Cert.SwaIdeal.κ "slope14" .f32 0x3DB504F3#32 (((Real.sqrt (Real.sqrt 16384))⁻¹ : ℝ) : EReal)
  ∧ IdealRules.named_const.Statement Cert.SwaIdeal.κ "slope15" .f32 0x3D9837F0#32 (((Real.sqrt (Real.sqrt 32768))⁻¹ : ℝ) : EReal)
  ∧ IdealRules.named_const.Statement Cert.SwaIdeal.κ "slope17" .f32 0x3D5744FD#32 (((Real.sqrt (Real.sqrt 131072))⁻¹ : ℝ) : EReal)
  ∧ IdealRules.named_const.Statement Cert.SwaIdeal.κ "slope18" .f32 0x3D3504F3#32 (((Real.sqrt (Real.sqrt 262144))⁻¹ : ℝ) : EReal)
  ∧ IdealRules.named_const.Statement Cert.SwaIdeal.κ "slope19" .f32 0x3D1837F0#32 (((Real.sqrt (Real.sqrt 524288))⁻¹ : ℝ) : EReal)
  ∧ IdealRules.named_const.Statement Cert.SwaIdeal.κ "slope21" .f32 0x3CD744FD#32 (((Real.sqrt (Real.sqrt 2097152))⁻¹ : ℝ) : EReal)
  ∧ IdealRules.named_const.Statement Cert.SwaIdeal.κ "slope22" .f32 0x3CB504F3#32 (((Real.sqrt (Real.sqrt 4194304))⁻¹ : ℝ) : EReal)
  ∧ IdealRules.named_const.Statement Cert.SwaIdeal.κ "slope23" .f32 0x3C9837F0#32 (((Real.sqrt (Real.sqrt 8388608))⁻¹ : ℝ) : EReal)
  ∧ IdealRules.named_const.Statement Cert.SwaIdeal.κ "slope25" .f32 0x3C5744FD#32 (((Real.sqrt (Real.sqrt 33554432))⁻¹ : ℝ) : EReal)
  ∧ IdealRules.named_const.Statement Cert.SwaIdeal.κ "slope26" .f32 0x3C3504F3#32 (((Real.sqrt (Real.sqrt 67108864))⁻¹ : ℝ) : EReal)
  ∧ IdealRules.named_const.Statement Cert.SwaIdeal.κ "slope27" .f32 0x3C1837F0#32 (((Real.sqrt (Real.sqrt 134217728))⁻¹ : ℝ) : EReal)
  ∧ IdealRules.named_const.Statement Cert.SwaIdeal.κ "slope29" .f32 0x3BD744FD#32 (((Real.sqrt (Real.sqrt 536870912))⁻¹ : ℝ) : EReal)
  ∧ IdealRules.named_const.Statement Cert.SwaIdeal.κ "slope30" .f32 0x3BB504F3#32 (((Real.sqrt (Real.sqrt 1073741824))⁻¹ : ℝ) : EReal)
  ∧ IdealRules.named_const.Statement Cert.SwaIdeal.κ "slope31" .f32 0x3B9837F0#32 (((Real.sqrt (Real.sqrt 2147483648))⁻¹ : ℝ) : EReal)

def algebraic_SwaIdeal_SwaRefIdeal [hSwaIdeal : Cert.SwaIdeal.Facts] [hSwaRefIdeal : Cert.SwaRefIdeal.Facts] : Prop :=
  ∀ (m : (ℓ : Loc Cert.SwaIdeal.nD Cert.SwaIdeal.τ Cert.SwaIdeal.sig) → Buf (Elt Ideal) ℓ) (g : Dev Cert.SwaIdeal.nD → PrngReg)
    (m' : (ℓ : Loc Cert.SwaRefIdeal.nD Cert.SwaRefIdeal.τ Cert.SwaRefIdeal.sig) → Buf (Elt Ideal) ℓ) (g' : Dev Cert.SwaRefIdeal.nD → PrngReg), Pre_SwaIdeal m →
    (∀ c : Dev Cert.SwaIdeal.nD,
      m' ((c.tc : Thread Cert.SwaRefIdeal.nD Cert.SwaRefIdeal.τ).loc Cert.SwaRefIdeal.main_arg0) = m ((c.tc : Thread Cert.SwaIdeal.nD Cert.SwaIdeal.τ).loc Cert.SwaIdeal.main_arg0)
      ∧ m' ((c.tc : Thread Cert.SwaRefIdeal.nD Cert.SwaRefIdeal.τ).loc Cert.SwaRefIdeal.main_arg1) = m ((c.tc : Thread Cert.SwaIdeal.nD Cert.SwaIdeal.τ).loc Cert.SwaIdeal.main_arg1)
      ∧ m' ((c.tc : Thread Cert.SwaRefIdeal.nD Cert.SwaRefIdeal.τ).loc Cert.SwaRefIdeal.main_arg2) = m ((c.tc : Thread Cert.SwaIdeal.nD Cert.SwaIdeal.τ).loc Cert.SwaIdeal.main_arg2)
      ∧ m' ((c.tc : Thread Cert.SwaRefIdeal.nD Cert.SwaRefIdeal.τ).loc Cert.SwaRefIdeal.main_arg3) = m ((c.tc : Thread Cert.SwaIdeal.nD Cert.SwaIdeal.τ).loc Cert.SwaIdeal.main_arg3)) →
    ∃ (v0 : (c : Dev Cert.SwaIdeal.nD) → Buf (Elt Ideal) ((c.tc : Thread Cert.SwaIdeal.nD Cert.SwaIdeal.τ).loc Cert.SwaIdeal.main_v2)),
      θ_run (Cert.SwaIdeal.defs (F := Ideal)) (onTc (τ := Cert.SwaIdeal.τ) (Cert.SwaIdeal.main (F := Ideal))) ⟨m, fun _ => 0, g⟩ (fun r => ∀ c : Dev Cert.SwaIdeal.nD,
          r.2.mem ((c.tc : Thread Cert.SwaIdeal.nD Cert.SwaIdeal.τ).loc Cert.SwaIdeal.main_v2) = v0 c
          ∧ r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
          ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
          ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
          ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3))
      ∧ θ_run (Cert.SwaRefIdeal.defs (F := Ideal)) (onTc (τ := Cert.SwaRefIdeal.τ) (Cert.SwaRefIdeal.main (F := Ideal))) ⟨m', fun _ => 0, g'⟩ (fun r => ∀ c : Dev Cert.SwaRefIdeal.nD,
          r.2.mem ((c.tc : Thread Cert.SwaRefIdeal.nD Cert.SwaRefIdeal.τ).loc Cert.SwaRefIdeal.main_v88) = v0 c
          ∧ r.2.mem ((c.tc : Thread Cert.SwaRefIdeal.nD Cert.SwaRefIdeal.τ).loc Cert.SwaRefIdeal.main_arg0) = m' ((c.tc : Thread Cert.SwaRefIdeal.nD Cert.SwaRefIdeal.τ).loc Cert.SwaRefIdeal.main_arg0)
          ∧ r.2.mem ((c.tc : Thread Cert.SwaRefIdeal.nD Cert.SwaRefIdeal.τ).loc Cert.SwaRefIdeal.main_arg1) = m' ((c.tc : Thread Cert.SwaRefIdeal.nD Cert.SwaRefIdeal.τ).loc Cert.SwaRefIdeal.main_arg1)
          ∧ r.2.mem ((c.tc : Thread Cert.SwaRefIdeal.nD Cert.SwaRefIdeal.τ).loc Cert.SwaRefIdeal.main_arg2) = m' ((c.tc : Thread Cert.SwaRefIdeal.nD Cert.SwaRefIdeal.τ).loc Cert.SwaRefIdeal.main_arg2)
          ∧ r.2.mem ((c.tc : Thread Cert.SwaRefIdeal.nD Cert.SwaRefIdeal.τ).loc Cert.SwaRefIdeal.main_arg3) = m' ((c.tc : Thread Cert.SwaRefIdeal.nD Cert.SwaRefIdeal.τ).loc Cert.SwaRefIdeal.main_arg3))

def Claim : Prop :=
  ∃ (hMoe : Cert.Moe.Facts) (hMoeIdeal : Cert.MoeIdeal.Facts) (hMoeRefIdeal : Cert.MoeRefIdeal.Facts) (hDense : Cert.Dense.Facts) (hDenseIdeal : Cert.DenseIdeal.Facts) (hDenseRefIdeal : Cert.DenseRefIdeal.Facts) (hHgrnProj : Cert.HgrnProj.Facts) (hHgrnProjIdeal : Cert.HgrnProjIdeal.Facts) (hHgrnProjRefIdeal : Cert.HgrnProjRefIdeal.Facts) (hSwaProj : Cert.SwaProj.Facts) (hSwaProjIdeal : Cert.SwaProjIdeal.Facts) (hSwaProjRefIdeal : Cert.SwaProjRefIdeal.Facts) (hNsaProj : Cert.NsaProj.Facts) (hNsaProjIdeal : Cert.NsaProjIdeal.Facts) (hNsaProjRefIdeal : Cert.NsaProjRefIdeal.Facts) (hOut : Cert.Out.Facts) (hOutIdeal : Cert.OutIdeal.Facts) (hOutRefIdeal : Cert.OutRefIdeal.Facts) (hSwa : Cert.Swa.Facts) (hSwaIdeal : Cert.SwaIdeal.Facts) (hSwaRefIdeal : Cert.SwaRefIdeal.Facts) (hPre_experts_exist : Cert.Pre_experts_exist.Facts),
    quiescent_Moe (hMoe := hMoe) (hPre_experts_exist := hPre_experts_exist)
    ∧ quiescent_MoeIdeal (hMoeIdeal := hMoeIdeal) (hPre_experts_exist := hPre_experts_exist)
    ∧ quiescent_MoeRefIdeal (hMoeRefIdeal := hMoeRefIdeal) (hPre_experts_exist := hPre_experts_exist)
    ∧ quiescent_Dense (hDense := hDense)
    ∧ quiescent_DenseIdeal (hDenseIdeal := hDenseIdeal)
    ∧ quiescent_DenseRefIdeal (hDenseRefIdeal := hDenseRefIdeal)
    ∧ quiescent_HgrnProj (hHgrnProj := hHgrnProj)
    ∧ quiescent_HgrnProjIdeal (hHgrnProjIdeal := hHgrnProjIdeal)
    ∧ quiescent_HgrnProjRefIdeal (hHgrnProjRefIdeal := hHgrnProjRefIdeal)
    ∧ quiescent_SwaProj (hSwaProj := hSwaProj)
    ∧ quiescent_SwaProjIdeal (hSwaProjIdeal := hSwaProjIdeal)
    ∧ quiescent_SwaProjRefIdeal (hSwaProjRefIdeal := hSwaProjRefIdeal)
    ∧ quiescent_NsaProj (hNsaProj := hNsaProj)
    ∧ quiescent_NsaProjIdeal (hNsaProjIdeal := hNsaProjIdeal)
    ∧ quiescent_NsaProjRefIdeal (hNsaProjRefIdeal := hNsaProjRefIdeal)
    ∧ quiescent_Out (hOut := hOut)
    ∧ quiescent_OutIdeal (hOutIdeal := hOutIdeal)
    ∧ quiescent_OutRefIdeal (hOutRefIdeal := hOutRefIdeal)
    ∧ quiescent_Swa (hSwa := hSwa)
    ∧ quiescent_SwaIdeal (hSwaIdeal := hSwaIdeal)
    ∧ quiescent_SwaRefIdeal (hSwaRefIdeal := hSwaRefIdeal)
    ∧ preserves_Moe_MoeIdeal
    ∧ algebraic_MoeIdeal_MoeRefIdeal (hMoeIdeal := hMoeIdeal) (hMoeRefIdeal := hMoeRefIdeal) (hPre_experts_exist := hPre_experts_exist)
    ∧ preserves_Dense_DenseIdeal
    ∧ algebraic_DenseIdeal_DenseRefIdeal (hDenseIdeal := hDenseIdeal) (hDenseRefIdeal := hDenseRefIdeal)
    ∧ preserves_HgrnProj_HgrnProjIdeal
    ∧ algebraic_HgrnProjIdeal_HgrnProjRefIdeal (hHgrnProjIdeal := hHgrnProjIdeal) (hHgrnProjRefIdeal := hHgrnProjRefIdeal)
    ∧ preserves_SwaProj_SwaProjIdeal
    ∧ algebraic_SwaProjIdeal_SwaProjRefIdeal (hSwaProjIdeal := hSwaProjIdeal) (hSwaProjRefIdeal := hSwaProjRefIdeal)
    ∧ preserves_NsaProj_NsaProjIdeal
    ∧ algebraic_NsaProjIdeal_NsaProjRefIdeal (hNsaProjIdeal := hNsaProjIdeal) (hNsaProjRefIdeal := hNsaProjRefIdeal)
    ∧ preserves_Out_OutIdeal
    ∧ algebraic_OutIdeal_OutRefIdeal (hOutIdeal := hOutIdeal) (hOutRefIdeal := hOutRefIdeal)
    ∧ preserves_Swa_SwaIdeal
    ∧ algebraic_SwaIdeal_SwaRefIdeal (hSwaIdeal := hSwaIdeal) (hSwaRefIdeal := hSwaRefIdeal)
-- ==== Pre_experts_exist.lean ====
abbrev S136 : Shape := ⟨1, ![136]⟩
abbrev S1 : Shape := ⟨1, ![1]⟩
abbrev S69632x2048 : Shape := ⟨2, ![69632, 2048]⟩
abbrev S8x2048x11264 : Shape := ⟨3, ![8, 2048, 11264]⟩
abbrev S8x5632x2048 : Shape := ⟨3, ![8, 5632, 2048]⟩
abbrev S_ : Shape := ⟨0, ![]⟩

class Facts : Prop where
  bcast_S_S136 : S_.BroadcastsInDim S136 (![] : Fin 0 → Fin S136.rank)
  bcast_S_S1 : S_.BroadcastsInDim S1 (![] : Fin 0 → Fin S1.rank)
  bcast_S1_S136_0 : S1.BroadcastsInDim S136 (![0] : Fin 1 → Fin S136.rank)

variable [Facts]

def fn {F : FTy → Type} [FloatOps F] (main_arg0 : IVec S136 32) (main_arg1 : IVec S1 32) (main_arg2 : FVec F S69632x2048 .f32) (main_arg3 : FVec F S8x2048x11264 .f32) (main_arg4 : FVec F S8x5632x2048 .f32) : IVec S136 1 :=
  let main_c : IVec S_ 32 := constantI S_ 32 0#32
  let main_v0 : IVec S136 32 := broadcastInDim S136 ![] bcast_S_S136 main_c
  let main_v1 : IVec S136 1 := cmpi .sge main_arg0 main_v0
  let main_c_0 : IVec S_ 32 := constantI S_ 32 8#32
  let main_v2 : IVec S136 32 := broadcastInDim S136 ![] bcast_S_S136 main_c_0
  let main_v3 : IVec S136 1 := cmpi .slt main_arg0 main_v2
  let main_v4 : IVec S136 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  let main_v7 : IVec S136 1 := broadcastInDim S136 ![0] bcast_S1_S136_0 main_v6
  let main_v8 : IVec S136 1 := andi main_v4 main_v7
  main_v8
-- ==== Moe.lean ====
abbrev S136 : Shape := ⟨1, ![136]⟩
abbrev S1 : Shape := ⟨1, ![1]⟩
abbrev S69632x2048 : Shape := ⟨2, ![69632, 2048]⟩
abbrev S8x2048x11264 : Shape := ⟨3, ![8, 2048, 11264]⟩
abbrev S8x5632x2048 : Shape := ⟨3, ![8, 5632, 2048]⟩
abbrev S512x2048 : Shape := ⟨2, ![512, 2048]⟩
abbrev S1x2048x512 : Shape := ⟨3, ![1, 2048, 512]⟩
abbrev S1x512x2048 : Shape := ⟨3, ![1, 512, 2048]⟩
abbrev S2048x512 : Shape := ⟨2, ![2048, 512]⟩
abbrev S512x512 : Shape := ⟨2, ![512, 512]⟩

abbrev nBuf : Space → Nat
  | .hbm => 6
  | .vmem => 12
  | .smem => 2
  | _ => 0

abbrev bufTy : (tb : Table) → Fin (tcTables nBuf tb) → BufTy
  | .hbm, ⟨0, _⟩ => ⟨S69632x2048, .f32⟩
  | .hbm, ⟨1, _⟩ => ⟨S8x2048x11264, .f32⟩
  | .hbm, ⟨2, _⟩ => ⟨S8x5632x2048, .f32⟩
  | .hbm, ⟨3, _⟩ => ⟨S8x2048x11264, .bf16⟩
  | .hbm, ⟨4, _⟩ => ⟨S8x5632x2048, .bf16⟩
  | .hbm, ⟨5, _⟩ => ⟨S69632x2048, .f32⟩
  | .local _ .vmem, ⟨0, _⟩ => ⟨S512x2048, .f32⟩
  | .local _ .vmem, ⟨1, _⟩ => ⟨S512x2048, .f32⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x512x2048, .bf16⟩
  | .local _ .vmem, ⟨7, _⟩ => ⟨S1x512x2048, .bf16⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .smem, ⟨0, _⟩ => ⟨S136, .i32⟩
  | .local _ .smem, ⟨1, _⟩ => ⟨S1, .i32⟩
  | _, _ => ⟨S69632x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![136, 11], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond5 (i : grid0.Coords) : BitVec 1 :=
  let arg1 : BitVec 32 := BitVec.ofNat 32 (i 1).val
  let c10_i32 : BitVec 32 := 10#32
  let v8 : BitVec 1 := Scalar.cmpi .eq arg1 c10_i32
  let v9 : BitVec 32 := Scalar.extui v8
  let c0_i32_2 : BitVec 32 := 0#32
  let v10 : BitVec 1 := Scalar.cmpi .ne v9 c0_i32_2
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S136.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c0_i32 : BitVec 32 := 0#32
  let v4 : BitVec 32 := Scalar.select v3 arg1 c0_i32
  let c0_i32_0 : BitVec 32 := 0#32
  let c0_i32_1 : BitVec 32 := 0#32
  ![v1.toNat, c0_i32_0.toNat, v4.toNat]

def cc0_transform_2 (k0_off1_inb : ∀ i : grid0.Coords, ∀ a, (k0_off1 i) a + S1.size a ≤ S136.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c0_i32 : BitVec 32 := 0#32
  let v4 : BitVec 32 := Scalar.select v3 arg1 c0_i32
  let c11_i32 : BitVec 32 := 11#32
  let v5 : BitVec 32 := Scalar.addi c11_i32 v4
  let c0_i32_0 : BitVec 32 := 0#32
  let c0_i32_1 : BitVec 32 := 0#32
  ![v1.toNat, c0_i32_0.toNat, v5.toNat]

def cc0_transform_3 (k0_off1_inb : ∀ i : grid0.Coords, ∀ a, (k0_off1 i) a + S1.size a ≤ S136.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c0_i32 : BitVec 32 := 0#32
  let v4 : BitVec 32 := Scalar.select v3 arg1 c0_i32
  let c0_i32_0 : BitVec 32 := 0#32
  let c0_i32_1 : BitVec 32 := 0#32
  ![v1.toNat, v4.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MoeRefIdeal.lean ====
abbrev S136 : Shape := ⟨1, ![136]⟩
abbrev S1 : Shape := ⟨1, ![1]⟩
abbrev S69632x2048 : Shape := ⟨2, ![69632, 2048]⟩
abbrev S8x2048x11264 : Shape := ⟨3, ![8, 2048, 11264]⟩
abbrev S8x5632x2048 : Shape := ⟨3, ![8, 5632, 2048]⟩
abbrev S_ : Shape := ⟨0, ![]⟩
abbrev S136x512 : Shape := ⟨2, ![136, 512]⟩
abbrev S69632 : Shape := ⟨1, ![69632]⟩
abbrev S69632x1 : Shape := ⟨2, ![69632, 1]⟩
abbrev S1x8 : Shape := ⟨2, ![1, 8]⟩
abbrev S69632x8 : Shape := ⟨2, ![69632, 8]⟩
abbrev S1x2048x11264 : Shape := ⟨3, ![1, 2048, 11264]⟩
abbrev S2048x11264 : Shape := ⟨2, ![2048, 11264]⟩
abbrev S1x5632x2048 : Shape := ⟨3, ![1, 5632, 2048]⟩
abbrev S5632x2048 : Shape := ⟨2, ![5632, 2048]⟩
abbrev S69632x11264 : Shape := ⟨2, ![69632, 11264]⟩
abbrev S69632x5632 : Shape := ⟨2, ![69632, 5632]⟩

abbrev nBuf : Space → Nat
  | .hbm => 203
  | .vmem => 0
  | .smem => 0
  | _ => 0

abbrev hbmTy0_0 (i : Nat) : BufTy := match i % 128 with
  | 0 => ⟨S136, .i32⟩
  | 1 => ⟨S1, .i32⟩
  | 2 => ⟨S69632x2048, .f32⟩
  | 3 => ⟨S8x2048x11264, .f32⟩
  | 4 => ⟨S8x5632x2048, .f32⟩
  | 5 => ⟨S136, .i32⟩
  | 6 => ⟨S_, .i32⟩
  | 7 => ⟨S136, .i32⟩
  | 8 => ⟨S136, .i1⟩
  | 9 => ⟨S136x512, .i1⟩
  | 10 => ⟨S69632, .i1⟩
  | 11 => ⟨S136x512, .i32⟩
  | 12 => ⟨S69632, .i32⟩
  | 13 => ⟨S69632x1, .i1⟩
  | 14 => ⟨S69632x1, .i32⟩
  | 15 => ⟨S1x8, .i32⟩
  | 16 => ⟨S69632x8, .i32⟩
  | 17 => ⟨S69632x8, .i32⟩
  | 18 => ⟨S69632x8, .i1⟩
  | 19 => ⟨S69632x8, .f32⟩
  | 20 => ⟨S_, .f32⟩
  | 21 => ⟨S_, .f32⟩
  | 22 => ⟨S69632x8, .i1⟩
  | 23 => ⟨S69632x8, .f32⟩
  | 24 => ⟨S69632x8, .f32⟩
  | 25 => ⟨S_, .f32⟩
  | 26 => ⟨S69632x2048, .f32⟩
  | 27 => ⟨S69632x1, .f32⟩
  | 28 => ⟨S1x2048x11264, .f32⟩
  | 29 => ⟨S2048x11264, .f32⟩
  | 30 => ⟨S1x5632x2048, .f32⟩
  | 31 => ⟨S5632x2048, .f32⟩
  | 32 => ⟨S69632x11264, .f32⟩
  | 33 => ⟨S69632x5632, .f32⟩
  | 34 => ⟨S69632x5632, .f32⟩
  | 35 => ⟨S69632x5632, .f32⟩
  | 36 => ⟨S69632x5632, .f32⟩
  | 37 => ⟨S_, .f32⟩
  | 38 => ⟨S69632x5632, .f32⟩
  | 39 => ⟨S69632x5632, .f32⟩
  | 40 => ⟨S_, .f32⟩
  | 41 => ⟨S69632x5632, .f32⟩
  | 42 => ⟨S69632x5632, .f32⟩
  | 43 => ⟨S69632x5632, .f32⟩
  | 44 => ⟨S69632x5632, .f32⟩
  | 45 => ⟨S69632x2048, .f32⟩
  | 46 => ⟨S69632x2048, .f32⟩
  | 47 => ⟨S69632x2048, .f32⟩
  | 48 => ⟨S69632x2048, .f32⟩
  | 49 => ⟨S69632x1, .f32⟩
  | 50 => ⟨S1x2048x11264, .f32⟩
  | 51 => ⟨S2048x11264, .f32⟩
  | 52 => ⟨S1x5632x2048, .f32⟩
  | 53 => ⟨S5632x2048, .f32⟩
  | 54 => ⟨S69632x11264, .f32⟩
  | 55 => ⟨S69632x5632, .f32⟩
  | 56 => ⟨S69632x5632, .f32⟩
  | 57 => ⟨S69632x5632, .f32⟩
  | 58 => ⟨S69632x5632, .f32⟩
  | 59 => ⟨S_, .f32⟩
  | 60 => ⟨S69632x5632, .f32⟩
  | 61 => ⟨S69632x5632, .f32⟩
  | 62 => ⟨S_, .f32⟩
  | 63 => ⟨S69632x5632, .f32⟩
  | 64 => ⟨S69632x5632, .f32⟩
  | 65 => ⟨S69632x5632, .f32⟩
  | 66 => ⟨S69632x5632, .f32⟩
  | 67 => ⟨S69632x2048, .f32⟩
  | 68 => ⟨S69632x2048, .f32⟩
  | 69 => ⟨S69632x2048, .f32⟩
  | 70 => ⟨S69632x2048, .f32⟩
  | 71 => ⟨S69632x1, .f32⟩
  | 72 => ⟨S1x2048x11264, .f32⟩
  | 73 => ⟨S2048x11264, .f32⟩
  | 74 => ⟨S1x5632x2048, .f32⟩
  | 75 => ⟨S5632x2048, .f32⟩
  | 76 => ⟨S69632x11264, .f32⟩
  | 77 => ⟨S69632x5632, .f32⟩
  | 78 => ⟨S69632x5632, .f32⟩
  | 79 => ⟨S69632x5632, .f32⟩
  | 80 => ⟨S69632x5632, .f32⟩
  | 81 => ⟨S_, .f32⟩
  | 82 => ⟨S69632x5632, .f32⟩
  | 83 => ⟨S69632x5632, .f32⟩
  | 84 => ⟨S_, .f32⟩
  | 85 => ⟨S69632x5632, .f32⟩
  | 86 => ⟨S69632x5632, .f32⟩
  | 87 => ⟨S69632x5632, .f32⟩
  | 88 => ⟨S69632x5632, .f32⟩
  | 89 => ⟨S69632x2048, .f32⟩
  | 90 => ⟨S69632x2048, .f32⟩
  | 91 => ⟨S69632x2048, .f32⟩
  | 92 => ⟨S69632x2048, .f32⟩
  | 93 => ⟨S69632x1, .f32⟩
  | 94 => ⟨S1x2048x11264, .f32⟩
  | 95 => ⟨S2048x11264, .f32⟩
  | 96 => ⟨S1x5632x2048, .f32⟩
  | 97 => ⟨S5632x2048, .f32⟩
  | 98 => ⟨S69632x11264, .f32⟩
  | 99 => ⟨S69632x5632, .f32⟩
  | 100 => ⟨S69632x5632, .f32⟩
  | 101 => ⟨S69632x5632, .f32⟩
  | 102 => ⟨S69632x5632, .f32⟩
  | 103 => ⟨S_, .f32⟩
  | 104 => ⟨S69632x5632, .f32⟩
  | 105 => ⟨S69632x5632, .f32⟩
  | 106 => ⟨S_, .f32⟩
  | 107 => ⟨S69632x5632, .f32⟩
  | 108 => ⟨S69632x5632, .f32⟩
  | 109 => ⟨S69632x5632, .f32⟩
  | 110 => ⟨S69632x5632, .f32⟩
  | 111 => ⟨S69632x2048, .f32⟩
  | 112 => ⟨S69632x2048, .f32⟩
  | 113 => ⟨S69632x2048, .f32⟩
  | 114 => ⟨S69632x2048, .f32⟩
  | 115 => ⟨S69632x1, .f32⟩
  | 116 => ⟨S1x2048x11264, .f32⟩
  | 117 => ⟨S2048x11264, .f32⟩
  | 118 => ⟨S1x5632x2048, .f32⟩
  | 119 => ⟨S5632x2048, .f32⟩
  | 120 => ⟨S69632x11264, .f32⟩
  | 121 => ⟨S69632x5632, .f32⟩
  | 122 => ⟨S69632x5632, .f32⟩
  | 123 => ⟨S69632x5632, .f32⟩
  | 124 => ⟨S69632x5632, .f32⟩
  | 125 => ⟨S_, .f32⟩
  | 126 => ⟨S69632x5632, .f32⟩
  | 127 => ⟨S69632x5632, .f32⟩
  | _ => ⟨S136, .i32⟩

abbrev hbmTy0_1 (i : Nat) : BufTy := match i % 128 with
  | 0 => ⟨S_, .f32⟩
  | 1 => ⟨S69632x5632, .f32⟩
  | 2 => ⟨S69632x5632, .f32⟩
  | 3 => ⟨S69632x5632, .f32⟩
  | 4 => ⟨S69632x5632, .f32⟩
  | 5 => ⟨S69632x2048, .f32⟩
  | 6 => ⟨S69632x2048, .f32⟩
  | 7 => ⟨S69632x2048, .f32⟩
  | 8 => ⟨S69632x2048, .f32⟩
  | 9 => ⟨S69632x1, .f32⟩
  | 10 => ⟨S1x2048x11264, .f32⟩
  | 11 => ⟨S2048x11264, .f32⟩
  | 12 => ⟨S1x5632x2048, .f32⟩
  | 13 => ⟨S5632x2048, .f32⟩
  | 14 => ⟨S69632x11264, .f32⟩
  | 15 => ⟨S69632x5632, .f32⟩
  | 16 => ⟨S69632x5632, .f32⟩
  | 17 => ⟨S69632x5632, .f32⟩
  | 18 => ⟨S69632x5632, .f32⟩
  | 19 => ⟨S_, .f32⟩
  | 20 => ⟨S69632x5632, .f32⟩
  | 21 => ⟨S69632x5632, .f32⟩
  | 22 => ⟨S_, .f32⟩
  | 23 => ⟨S69632x5632, .f32⟩
  | 24 => ⟨S69632x5632, .f32⟩
  | 25 => ⟨S69632x5632, .f32⟩
  | 26 => ⟨S69632x5632, .f32⟩
  | 27 => ⟨S69632x2048, .f32⟩
  | 28 => ⟨S69632x2048, .f32⟩
  | 29 => ⟨S69632x2048, .f32⟩
  | 30 => ⟨S69632x2048, .f32⟩
  | 31 => ⟨S69632x1, .f32⟩
  | 32 => ⟨S1x2048x11264, .f32⟩
  | 33 => ⟨S2048x11264, .f32⟩
  | 34 => ⟨S1x5632x2048, .f32⟩
  | 35 => ⟨S5632x2048, .f32⟩
  | 36 => ⟨S69632x11264, .f32⟩
  | 37 => ⟨S69632x5632, .f32⟩
  | 38 => ⟨S69632x5632, .f32⟩
  | 39 => ⟨S69632x5632, .f32⟩
  | 40 => ⟨S69632x5632, .f32⟩
  | 41 => ⟨S_, .f32⟩
  | 42 => ⟨S69632x5632, .f32⟩
  | 43 => ⟨S69632x5632, .f32⟩
  | 44 => ⟨S_, .f32⟩
  | 45 => ⟨S69632x5632, .f32⟩
  | 46 => ⟨S69632x5632, .f32⟩
  | 47 => ⟨S69632x5632, .f32⟩
  | 48 => ⟨S69632x5632, .f32⟩
  | 49 => ⟨S69632x2048, .f32⟩
  | 50 => ⟨S69632x2048, .f32⟩
  | 51 => ⟨S69632x2048, .f32⟩
  | 52 => ⟨S69632x2048, .f32⟩
  | 53 => ⟨S69632x1, .f32⟩
  | 54 => ⟨S1x2048x11264, .f32⟩
  | 55 => ⟨S2048x11264, .f32⟩
  | 56 => ⟨S1x5632x2048, .f32⟩
  | 57 => ⟨S5632x2048, .f32⟩
  | 58 => ⟨S69632x11264, .f32⟩
  | 59 => ⟨S69632x5632, .f32⟩
  | 60 => ⟨S69632x5632, .f32⟩
  | 61 => ⟨S69632x5632, .f32⟩
  | 62 => ⟨S69632x5632, .f32⟩
  | 63 => ⟨S_, .f32⟩
  | 64 => ⟨S69632x5632, .f32⟩
  | 65 => ⟨S69632x5632, .f32⟩
  | 66 => ⟨S_, .f32⟩
  | 67 => ⟨S69632x5632, .f32⟩
  | 68 => ⟨S69632x5632, .f32⟩
  | 69 => ⟨S69632x5632, .f32⟩
  | 70 => ⟨S69632x5632, .f32⟩
  | 71 => ⟨S69632x2048, .f32⟩
  | 72 => ⟨S69632x2048, .f32⟩
  | 73 => ⟨S69632x2048, .f32⟩
  | 74 => ⟨S69632x2048, .f32⟩
  | _ => ⟨S136, .i32⟩

abbrev hbmTy (i : Nat) : BufTy := match i / 128 with
  | 0 => hbmTy0_0 i
  | 1 => hbmTy0_1 i
  | _ => ⟨S136, .i32⟩

abbrev bufTy : (tb : Table) → Fin (tcTables nBuf tb) → BufTy
  | .hbm, ⟨i, _⟩ => hbmTy i
  | _, _ => ⟨S136, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v9 : Ref sig .tc := ⟨.hbm, 19, rfl⟩
abbrev main_cst : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_call2_v0 : Ref sig .tc := ⟨.hbm, 35, rfl⟩
abbrev main_call2_v1 : Ref sig .tc := ⟨.hbm, 36, rfl⟩
abbrev main_call2_cst : Ref sig .tc := ⟨.hbm, 37, rfl⟩
abbrev main_call2_v2 : Ref sig .tc := ⟨.hbm, 38, rfl⟩
abbrev main_call2_v3 : Ref sig .tc := ⟨.hbm, 39, rfl⟩
abbrev main_call2_cst_0 : Ref sig .tc := ⟨.hbm, 40, rfl⟩
abbrev main_call2_v4 : Ref sig .tc := ⟨.hbm, 41, rfl⟩
abbrev main_call2_v5 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_call3_v0 : Ref sig .tc := ⟨.hbm, 57, rfl⟩
abbrev main_call3_v1 : Ref sig .tc := ⟨.hbm, 58, rfl⟩
abbrev main_call3_cst : Ref sig .tc := ⟨.hbm, 59, rfl⟩
abbrev main_call3_v2 : Ref sig .tc := ⟨.hbm, 60, rfl⟩
abbrev main_call3_v3 : Ref sig .tc := ⟨.hbm, 61, rfl⟩
abbrev main_call3_cst_0 : Ref sig .tc := ⟨.hbm, 62, rfl⟩
abbrev main_call3_v4 : Ref sig .tc := ⟨.hbm, 63, rfl⟩
abbrev main_call3_v5 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_call4_v0 : Ref sig .tc := ⟨.hbm, 79, rfl⟩
abbrev main_call4_v1 : Ref sig .tc := ⟨.hbm, 80, rfl⟩
abbrev main_call4_cst : Ref sig .tc := ⟨.hbm, 81, rfl⟩
abbrev main_call4_v2 : Ref sig .tc := ⟨.hbm, 82, rfl⟩
abbrev main_call4_v3 : Ref sig .tc := ⟨.hbm, 83, rfl⟩
abbrev main_call4_cst_0 : Ref sig .tc := ⟨.hbm, 84, rfl⟩
abbrev main_call4_v4 : Ref sig .tc := ⟨.hbm, 85, rfl⟩
abbrev main_call4_v5 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_call5_v0 : Ref sig .tc := ⟨.hbm, 101, rfl⟩
abbrev main_call5_v1 : Ref sig .tc := ⟨.hbm, 102, rfl⟩
abbrev main_call5_cst : Ref sig .tc := ⟨.hbm, 103, rfl⟩
abbrev main_call5_v2 : Ref sig .tc := ⟨.hbm, 104, rfl⟩
abbrev main_call5_v3 : Ref sig .tc := ⟨.hbm, 105, rfl⟩
abbrev main_call5_cst_0 : Ref sig .tc := ⟨.hbm, 106, rfl⟩
abbrev main_call5_v4 : Ref sig .tc := ⟨.hbm, 107, rfl⟩
abbrev main_call5_v5 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_call6_v0 : Ref sig .tc := ⟨.hbm, 123, rfl⟩
abbrev main_call6_v1 : Ref sig .tc := ⟨.hbm, 124, rfl⟩
abbrev main_call6_cst : Ref sig .tc := ⟨.hbm, 125, rfl⟩
abbrev main_call6_v2 : Ref sig .tc := ⟨.hbm, 126, rfl⟩
abbrev main_call6_v3 : Ref sig .tc := ⟨.hbm, 127, rfl⟩
abbrev main_call6_cst_0 : Ref sig .tc := ⟨.hbm, 128, rfl⟩
abbrev main_call6_v4 : Ref sig .tc := ⟨.hbm, 129, rfl⟩
abbrev main_call6_v5 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_call7_v0 : Ref sig .tc := ⟨.hbm, 145, rfl⟩
abbrev main_call7_v1 : Ref sig .tc := ⟨.hbm, 146, rfl⟩
abbrev main_call7_cst : Ref sig .tc := ⟨.hbm, 147, rfl⟩
abbrev main_call7_v2 : Ref sig .tc := ⟨.hbm, 148, rfl⟩
abbrev main_call7_v3 : Ref sig .tc := ⟨.hbm, 149, rfl⟩
abbrev main_call7_cst_0 : Ref sig .tc := ⟨.hbm, 150, rfl⟩
abbrev main_call7_v4 : Ref sig .tc := ⟨.hbm, 151, rfl⟩
abbrev main_call7_v5 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_call8_v0 : Ref sig .tc := ⟨.hbm, 167, rfl⟩
abbrev main_call8_v1 : Ref sig .tc := ⟨.hbm, 168, rfl⟩
abbrev main_call8_cst : Ref sig .tc := ⟨.hbm, 169, rfl⟩
abbrev main_call8_v2 : Ref sig .tc := ⟨.hbm, 170, rfl⟩
abbrev main_call8_v3 : Ref sig .tc := ⟨.hbm, 171, rfl⟩
abbrev main_call8_cst_0 : Ref sig .tc := ⟨.hbm, 172, rfl⟩
abbrev main_call8_v4 : Ref sig .tc := ⟨.hbm, 173, rfl⟩
abbrev main_call8_v5 : Ref sig .tc := ⟨.hbm, 174, rfl⟩
abbrev main_v104 : Ref sig .tc := ⟨.hbm, 175, rfl⟩
abbrev main_v105 : Ref sig .tc := ⟨.hbm, 176, rfl⟩
abbrev main_v106 : Ref sig .tc := ⟨.hbm, 177, rfl⟩
abbrev main_v107 : Ref sig .tc := ⟨.hbm, 178, rfl⟩
abbrev main_v108 : Ref sig .tc := ⟨.hbm, 179, rfl⟩
abbrev main_v109 : Ref sig .tc := ⟨.hbm, 180, rfl⟩
abbrev main_v110 : Ref sig .tc := ⟨.hbm, 181, rfl⟩
abbrev main_v111 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_v115 : Ref sig .tc := ⟨.hbm, 186, rfl⟩
abbrev main_v116 : Ref sig .tc := ⟨.hbm, 187, rfl⟩
abbrev main_v117 : Ref sig .tc := ⟨.hbm, 188, rfl⟩
abbrev main_call9_v0 : Ref sig .tc := ⟨.hbm, 189, rfl⟩
abbrev main_call9_v1 : Ref sig .tc := ⟨.hbm, 190, rfl⟩
abbrev main_call9_cst : Ref sig .tc := ⟨.hbm, 191, rfl⟩
abbrev main_call9_v2 : Ref sig .tc := ⟨.hbm, 192, rfl⟩
abbrev main_call9_v3 : Ref sig .tc := ⟨.hbm, 193, rfl⟩
abbrev main_call9_cst_0 : Ref sig .tc := ⟨.hbm, 194, rfl⟩
abbrev main_call9_v4 : Ref sig .tc := ⟨.hbm, 195, rfl⟩
abbrev main_call9_v5 : Ref sig .tc := ⟨.hbm, 196, rfl⟩
abbrev main_v118 : Ref sig .tc := ⟨.hbm, 197, rfl⟩
abbrev main_v119 : Ref sig .tc := ⟨.hbm, 198, rfl⟩
abbrev main_v120 : Ref sig .tc := ⟨.hbm, 199, rfl⟩
abbrev main_v121 : Ref sig .tc := ⟨.hbm, 200, rfl⟩
abbrev main_v122 : Ref sig .tc := ⟨.hbm, 201, rfl⟩
abbrev main_v123 : Ref sig .tc := ⟨.hbm, 202, rfl⟩

abbrev nD : Nat := 1
abbrev τ : Topo := Topo.v7x

variable {F : FTy → Type} [FloatOps F]
-- ==== Dense.lean ====
abbrev S32768x2048 : Shape := ⟨2, ![32768, 2048]⟩
abbrev S2048x11264 : Shape := ⟨2, ![2048, 11264]⟩
abbrev S5632x2048 : Shape := ⟨2, ![5632, 2048]⟩
abbrev S48x1x2048 : Shape := ⟨3, ![48, 1, 2048]⟩
abbrev S512x2048 : Shape := ⟨2, ![512, 2048]⟩
abbrev S2048x512 : Shape := ⟨2, ![2048, 512]⟩
abbrev S1x1x2048 : Shape := ⟨3, ![1, 1, 2048]⟩
abbrev S512x512 : Shape := ⟨2, ![512, 512]⟩
abbrev S1x2048 : Shape := ⟨2, ![1, 2048]⟩

abbrev nBuf : Space → Nat
  | .hbm => 8
  | .vmem => 15
  | .smem => 0
  | _ => 0

abbrev bufTy : (tb : Table) → Fin (tcTables nBuf tb) → BufTy
  | .hbm, ⟨0, _⟩ => ⟨S32768x2048, .bf16⟩
  | .hbm, ⟨1, _⟩ => ⟨S2048x11264, .f32⟩
  | .hbm, ⟨2, _⟩ => ⟨S5632x2048, .f32⟩
  | .hbm, ⟨3, _⟩ => ⟨S32768x2048, .f32⟩
  | .hbm, ⟨4, _⟩ => ⟨S48x1x2048, .f32⟩
  | .hbm, ⟨5, _⟩ => ⟨S2048x11264, .bf16⟩
  | .hbm, ⟨6, _⟩ => ⟨S5632x2048, .bf16⟩
  | .hbm, ⟨7, _⟩ => ⟨S32768x2048, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .f32⟩
  | .local _ .vmem, ⟨9, _⟩ => ⟨S512x2048, .f32⟩
  | .local _ .vmem, ⟨10, _⟩ => ⟨S1x1x2048, .f32⟩
  | .local _ .vmem, ⟨11, _⟩ => ⟨S1x1x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![64, 11], ![false, false]⟩

def k0_cond3 (i : grid0.Coords) : BitVec 1 :=
  let arg1 : BitVec 32 := BitVec.ofNat 32 (i 1).val
  let c10_i32 : BitVec 32 := 10#32
  let v20 : BitVec 1 := Scalar.cmpi .eq arg1 c10_i32
  let v21 : BitVec 32 := Scalar.extui v20
  let c0_i32_12 : BitVec 32 := 0#32
  let v22 : BitVec 1 := Scalar.cmpi .ne v21 c0_i32_12
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c5_i32 : BitVec 32 := 5#32
  let v18 : BitVec 32 := Scalar.addi v17 c5_i32
  let c0_i32_4 : BitVec 32 := 0#32
  let c0_i32_5 : BitVec 32 := 0#32
  let c0_i32_6 : BitVec 32 := 0#32
  ![v18.toNat, c0_i32_4.toNat, c0_i32_5.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== DenseRefIdeal.lean ====
abbrev S32768x2048 : Shape := ⟨2, ![32768, 2048]⟩
abbrev S2048x11264 : Shape := ⟨2, ![2048, 11264]⟩
abbrev S5632x2048 : Shape := ⟨2, ![5632, 2048]⟩
abbrev S48x1x2048 : Shape := ⟨3, ![48, 1, 2048]⟩
abbrev S8x1x12288 : Shape := ⟨3, ![8, 1, 12288]⟩
abbrev S8x1x2048 : Shape := ⟨3, ![8, 1, 2048]⟩
abbrev S32768x11264 : Shape := ⟨2, ![32768, 11264]⟩
abbrev S32768x5632 : Shape := ⟨2, ![32768, 5632]⟩
abbrev S_ : Shape := ⟨0, ![]⟩
abbrev S8x4096x2048 : Shape := ⟨3, ![8, 4096, 2048]⟩

abbrev nBuf : Space → Nat
  | .hbm => 33
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x11264, .f32⟩
  | .hbm, ⟨2, _⟩ => ⟨S5632x2048, .f32⟩
  | .hbm, ⟨3, _⟩ => ⟨S32768x2048, .f32⟩
  | .hbm, ⟨4, _⟩ => ⟨S48x1x2048, .f32⟩
  | .hbm, ⟨5, _⟩ => ⟨S8x1x12288, .f32⟩
  | .hbm, ⟨6, _⟩ => ⟨S8x1x2048, .f32⟩
  | .hbm, ⟨7, _⟩ => ⟨S8x1x2048, .f32⟩
  | .hbm, ⟨8, _⟩ => ⟨S8x1x2048, .f32⟩
  | .hbm, ⟨9, _⟩ => ⟨S8x1x2048, .f32⟩
  | .hbm, ⟨10, _⟩ => ⟨S8x1x2048, .f32⟩
  | .hbm, ⟨11, _⟩ => ⟨S8x1x2048, .f32⟩
  | .hbm, ⟨12, _⟩ => ⟨S32768x2048, .f32⟩
  | .hbm, ⟨13, _⟩ => ⟨S32768x11264, .f32⟩
  | .hbm, ⟨14, _⟩ => ⟨S32768x5632, .f32⟩
  | .hbm, ⟨15, _⟩ => ⟨S32768x5632, .f32⟩
  | .hbm, ⟨16, _⟩ => ⟨S32768x5632, .f32⟩
  | .hbm, ⟨17, _⟩ => ⟨S32768x5632, .f32⟩
  | .hbm, ⟨18, _⟩ => ⟨S_, .f32⟩
  | .hbm, ⟨19, _⟩ => ⟨S32768x5632, .f32⟩
  | .hbm, ⟨20, _⟩ => ⟨S32768x5632, .f32⟩
  | .hbm, ⟨21, _⟩ => ⟨S_, .f32⟩
  | .hbm, ⟨22, _⟩ => ⟨S32768x5632, .f32⟩
  | .hbm, ⟨23, _⟩ => ⟨S32768x5632, .f32⟩
  | .hbm, ⟨24, _⟩ => ⟨S32768x5632, .f32⟩
  | .hbm, ⟨25, _⟩ => ⟨S32768x5632, .f32⟩
  | .hbm, ⟨26, _⟩ => ⟨S32768x2048, .f32⟩
  | .hbm, ⟨27, _⟩ => ⟨S8x4096x2048, .f32⟩
  | .hbm, ⟨28, _⟩ => ⟨S8x4096x2048, .f32⟩
  | .hbm, ⟨29, _⟩ => ⟨S8x4096x2048, .f32⟩
  | .hbm, ⟨30, _⟩ => ⟨S8x4096x2048, .f32⟩
  | .hbm, ⟨31, _⟩ => ⟨S8x4096x2048, .f32⟩
  | .hbm, ⟨32, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩

abbrev nD : Nat := 1
abbrev τ : Topo := Topo.v7x

variable {F : FTy → Type} [FloatOps F]
-- ==== HgrnProj.lean ====
abbrev S32768x2048 : Shape := ⟨2, ![32768, 2048]⟩
abbrev S2048x8192 : Shape := ⟨2, ![2048, 8192]⟩
abbrev S32768x8192 : Shape := ⟨2, ![32768, 8192]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S32768x2048, .bf16⟩
  | .hbm, ⟨1, _⟩ => ⟨S2048x8192, .f32⟩
  | .hbm, ⟨2, _⟩ => ⟨S2048x8192, .bf16⟩
  | .hbm, ⟨3, _⟩ => ⟨S32768x8192, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== HgrnProjIdeal.lean ====
abbrev S32768x2048 : Shape := ⟨2, ![32768, 2048]⟩
abbrev S2048x8192 : Shape := ⟨2, ![2048, 8192]⟩
abbrev S32768x8192 : Shape := ⟨2, ![32768, 8192]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S32768x2048, .bf16⟩
  | .hbm, ⟨1, _⟩ => ⟨S2048x8192, .f32⟩
  | .hbm, ⟨2, _⟩ => ⟨S2048x8192, .bf16⟩
  | .hbm, ⟨3, _⟩ => ⟨S32768x8192, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== HgrnProjRefIdeal.lean ====
abbrev S32768x2048 : Shape := ⟨2, ![32768, 2048]⟩
abbrev S2048x8192 : Shape := ⟨2, ![2048, 8192]⟩
abbrev S32768x8192 : Shape := ⟨2, ![32768, 8192]⟩

abbrev nBuf : Space → Nat
  | .hbm => 4
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x8192, .f32⟩
  | .hbm, ⟨2, _⟩ => ⟨S32768x2048, .f32⟩
  | .hbm, ⟨3, _⟩ => ⟨S32768x8192, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SwaProj.lean ====
abbrev S32768x2048 : Shape := ⟨2, ![32768, 2048]⟩
abbrev S2048x2560 : Shape := ⟨2, ![2048, 2560]⟩
abbrev S32768x2560 : Shape := ⟨2, ![32768, 2560]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S32768x2048, .bf16⟩
  | .hbm, ⟨1, _⟩ => ⟨S2048x2560, .f32⟩
  | .hbm, ⟨2, _⟩ => ⟨S2048x2560, .bf16⟩
  | .hbm, ⟨3, _⟩ => ⟨S32768x2560, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SwaProjIdeal.lean ====
abbrev S32768x2048 : Shape := ⟨2, ![32768, 2048]⟩
abbrev S2048x2560 : Shape := ⟨2, ![2048, 2560]⟩
abbrev S32768x2560 : Shape := ⟨2, ![32768, 2560]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S32768x2048, .bf16⟩
  | .hbm, ⟨1, _⟩ => ⟨S2048x2560, .f32⟩
  | .hbm, ⟨2, _⟩ => ⟨S2048x2560, .bf16⟩
  | .hbm, ⟨3, _⟩ => ⟨S32768x2560, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SwaProjRefIdeal.lean ====
abbrev S32768x2048 : Shape := ⟨2, ![32768, 2048]⟩
abbrev S2048x2560 : Shape := ⟨2, ![2048, 2560]⟩
abbrev S32768x2560 : Shape := ⟨2, ![32768, 2560]⟩

abbrev nBuf : Space → Nat
  | .hbm => 4
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x2560, .f32⟩
  | .hbm, ⟨2, _⟩ => ⟨S32768x2048, .f32⟩
  | .hbm, ⟨3, _⟩ => ⟨S32768x2560, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== NsaProj.lean ====
abbrev S32768x2048 : Shape := ⟨2, ![32768, 2048]⟩
abbrev S2048x5632 : Shape := ⟨2, ![2048, 5632]⟩
abbrev S32768x5632 : Shape := ⟨2, ![32768, 5632]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S32768x2048, .bf16⟩
  | .hbm, ⟨1, _⟩ => ⟨S2048x5632, .f32⟩
  | .hbm, ⟨2, _⟩ => ⟨S2048x5632, .bf16⟩
  | .hbm, ⟨3, _⟩ => ⟨S32768x5632, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== NsaProjRefIdeal.lean ====
abbrev S32768x2048 : Shape := ⟨2, ![32768, 2048]⟩
abbrev S2048x5632 : Shape := ⟨2, ![2048, 5632]⟩
abbrev S32768x5632 : Shape := ⟨2, ![32768, 5632]⟩

abbrev nBuf : Space → Nat
  | .hbm => 4
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x5632, .f32⟩
  | .hbm, ⟨2, _⟩ => ⟨S32768x2048, .f32⟩
  | .hbm, ⟨3, _⟩ => ⟨S32768x5632, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Out.lean ====
abbrev S32768x2048 : Shape := ⟨2, ![32768, 2048]⟩
abbrev S2048x2048 : Shape := ⟨2, ![2048, 2048]⟩
abbrev S48x1x2048 : Shape := ⟨3, ![48, 1, 2048]⟩
abbrev S1024x2048 : Shape := ⟨2, ![1024, 2048]⟩
abbrev S2048x512 : Shape := ⟨2, ![2048, 512]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 6
  | .vmem => 10
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .f32⟩
  | .hbm, ⟨2, _⟩ => ⟨S32768x2048, .f32⟩
  | .hbm, ⟨3, _⟩ => ⟨S48x1x2048, .f32⟩
  | .hbm, ⟨4, _⟩ => ⟨S2048x2048, .bf16⟩
  | .hbm, ⟨5, _⟩ => ⟨S32768x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1024x512, .f32⟩
  | .local _ .vmem, ⟨9, _⟩ => ⟨S1024x512, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c2_i32 : BitVec 32 := 2#32
  let v18 : BitVec 32 := Scalar.addi v17 c2_i32
  let c0_i32_4 : BitVec 32 := 0#32
  let c0_i32_5 : BitVec 32 := 0#32
  ![v18.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutRefIdeal.lean ====
abbrev S32768x2048 : Shape := ⟨2, ![32768, 2048]⟩
abbrev S2048x2048 : Shape := ⟨2, ![2048, 2048]⟩
abbrev S48x1x2048 : Shape := ⟨3, ![48, 1, 2048]⟩
abbrev S8x1x12288 : Shape := ⟨3, ![8, 1, 12288]⟩
abbrev S8x1x2048 : Shape := ⟨3, ![8, 1, 2048]⟩
abbrev S8x4096x2048 : Shape := ⟨3, ![8, 4096, 2048]⟩

abbrev nBuf : Space → Nat
  | .hbm => 19
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .f32⟩
  | .hbm, ⟨2, _⟩ => ⟨S32768x2048, .f32⟩
  | .hbm, ⟨3, _⟩ => ⟨S48x1x2048, .f32⟩
  | .hbm, ⟨4, _⟩ => ⟨S8x1x12288, .f32⟩
  | .hbm, ⟨5, _⟩ => ⟨S8x1x2048, .f32⟩
  | .hbm, ⟨6, _⟩ => ⟨S8x1x2048, .f32⟩
  | .hbm, ⟨7, _⟩ => ⟨S8x1x2048, .f32⟩
  | .hbm, ⟨8, _⟩ => ⟨S8x1x2048, .f32⟩
  | .hbm, ⟨9, _⟩ => ⟨S8x1x2048, .f32⟩
  | .hbm, ⟨10, _⟩ => ⟨S8x1x2048, .f32⟩
  | .hbm, ⟨11, _⟩ => ⟨S32768x2048, .f32⟩
  | .hbm, ⟨12, _⟩ => ⟨S32768x2048, .f32⟩
  | .hbm, ⟨13, _⟩ => ⟨S8x4096x2048, .f32⟩
  | .hbm, ⟨14, _⟩ => ⟨S8x4096x2048, .f32⟩
  | .hbm, ⟨15, _⟩ => ⟨S8x4096x2048, .f32⟩
  | .hbm, ⟨16, _⟩ => ⟨S8x4096x2048, .f32⟩
  | .hbm, ⟨17, _⟩ => ⟨S8x4096x2048, .f32⟩
  | .hbm, ⟨18, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Swa.lean ====
abbrev S8x4096x2560 : Shape := ⟨3, ![8, 4096, 2560]⟩
abbrev S64 : Shape := ⟨1, ![64]⟩
abbrev S32 : Shape := ⟨1, ![32]⟩
abbrev S1x64 : Shape := ⟨2, ![1, 64]⟩
abbrev S8x4096x2048 : Shape := ⟨3, ![8, 4096, 2048]⟩
abbrev S1x128x2048 : Shape := ⟨3, ![1, 128, 2048]⟩
abbrev S1x128x256 : Shape := ⟨3, ![1, 128, 256]⟩
abbrev S128x2048 : Shape := ⟨2, ![128, 2048]⟩
abbrev S128x256 : Shape := ⟨2, ![128, 256]⟩
abbrev S256x256 : Shape := ⟨2, ![256, 256]⟩
abbrev S128x1 : Shape := ⟨2, ![128, 1]⟩
abbrev S1x256 : Shape := ⟨2, ![1, 256]⟩
abbrev S256x64 : Shape := ⟨2, ![256, 64]⟩
abbrev S256 : Shape := ⟨1, ![256]⟩
abbrev S256x1 : Shape := ⟨2, ![256, 1]⟩
abbrev S128x64 : Shape := ⟨2, ![128, 64]⟩
abbrev S128 : Shape := ⟨1, ![128]⟩
abbrev S1024x64 : Shape := ⟨2, ![1024, 64]⟩
abbrev S1024x256 : Shape := ⟨2, ![1024, 256]⟩
abbrev S1 : Shape := ⟨1, ![1]⟩

abbrev nBuf : Space → Nat
  | .hbm => 7
  | .vmem => 14
  | .smem => 1
  | _ => 0

abbrev bufTy : (tb : Table) → Fin (tcTables nBuf tb) → BufTy
  | .hbm, ⟨0, _⟩ => ⟨S8x4096x2560, .f32⟩
  | .hbm, ⟨1, _⟩ => ⟨S64, .f32⟩
  | .hbm, ⟨2, _⟩ => ⟨S64, .f32⟩
  | .hbm, ⟨3, _⟩ => ⟨S32, .f32⟩
  | .hbm, ⟨4, _⟩ => ⟨S1x64, .f32⟩
  | .hbm, ⟨5, _⟩ => ⟨S1x64, .f32⟩
  | .hbm, ⟨6, _⟩ => ⟨S8x4096x2048, .bf16⟩
  | .local _ .vmem, ⟨0, _⟩ => ⟨S1x128x2048, .f32⟩
  | .local _ .vmem, ⟨1, _⟩ => ⟨S1x128x2048, .f32⟩
  | .local _ .vmem, ⟨2, _⟩ => ⟨S1x128x256, .f32⟩
  | .local _ .vmem, ⟨3, _⟩ => ⟨S1x128x256, .f32⟩
  | .local _ .vmem, ⟨4, _⟩ => ⟨S1x128x256, .f32⟩
  | .local _ .vmem, ⟨5, _⟩ => ⟨S1x128x256, .f32⟩
  | .local _ .vmem, ⟨6, _⟩ => ⟨S1x128x256, .f32⟩
  | .local _ .vmem, ⟨7, _⟩ => ⟨S1x128x256, .f32⟩
  | .local _ .vmem, ⟨8, _⟩ => ⟨S1x128x256, .f32⟩
  | .local _ .vmem, ⟨9, _⟩ => ⟨S1x128x256, .f32⟩
  | .local _ .vmem, ⟨10, _⟩ => ⟨S1x64, .f32⟩
  | .local _ .vmem, ⟨11, _⟩ => ⟨S1x64, .f32⟩
  | .local _ .vmem, ⟨12, _⟩ => ⟨S1x128x2048, .bf16⟩
  | .local _ .vmem, ⟨13, _⟩ => ⟨S1x128x2048, .bf16⟩
  | .local _ .smem, ⟨0, _⟩ => ⟨S32, .f32⟩
  | _, _ => ⟨S8x4096x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![8, 32], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c8_i32 : BitVec 32 := 8#32
  let c0_i32_0 : BitVec 32 := 0#32
  ![arg0.toNat, v1.toNat, c8_i32.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c9_i32 : BitVec 32 := 9#32
  let c0_i32_0 : BitVec 32 := 0#32
  ![arg0.toNat, v1.toNat, c9_i32.toNat]

def cc0_transform_5 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== SwaIdeal.lean ====
variable {F : FTy → Type} [FloatOps F] [Named F]
def κ : String → Option EReal := fun
  | "mask" => some ⊥
  | "slope1" => some (((Real.sqrt (Real.sqrt 2))⁻¹ : ℝ) : EReal)
  | "slope10" => some (((Real.sqrt (Real.sqrt 1024))⁻¹ : ℝ) : EReal)
  | "slope11" => some (((Real.sqrt (Real.sqrt 2048))⁻¹ : ℝ) : EReal)
  | "slope13" => some (((Real.sqrt (Real.sqrt 8192))⁻¹ : ℝ) : EReal)
  | "slope14" => some (((Real.sqrt (Real.sqrt 16384))⁻¹ : ℝ) : EReal)
  | "slope15" => some (((Real.sqrt (Real.sqrt 32768))⁻¹ : ℝ) : EReal)
  | "slope17" => some (((Real.sqrt (Real.sqrt 131072))⁻¹ : ℝ) : EReal)
  | "slope18" => some (((Real.sqrt (Real.sqrt 262144))⁻¹ : ℝ) : EReal)
  | "slope19" => some (((Real.sqrt (Real.sqrt 524288))⁻¹ : ℝ) : EReal)
  | "slope2" => some (((Real.sqrt (Real.sqrt 4))⁻¹ : ℝ) : EReal)
  | "slope21" => some (((Real.sqrt (Real.sqrt 2097152))⁻¹ : ℝ) : EReal)
  | "slope22" => some (((Real.sqrt (Real.sqrt 4194304))⁻¹ : ℝ) : EReal)
  | "slope23" => some (((Real.sqrt (Real.sqrt 8388608))⁻¹ : ℝ) : EReal)
  | "slope25" => some (((Real.sqrt (Real.sqrt 33554432))⁻¹ : ℝ) : EReal)
  | "slope26" => some (((Real.sqrt (Real.sqrt 67108864))⁻¹ : ℝ) : EReal)
  | "slope27" => some (((Real.sqrt (Real.sqrt 134217728))⁻¹ : ℝ) : EReal)
  | "slope29" => some (((Real.sqrt (Real.sqrt 536870912))⁻¹ : ℝ) : EReal)
  | "slope3" => some (((Real.sqrt (Real.sqrt 8))⁻¹ : ℝ) : EReal)
  | "slope30" => some (((Real.sqrt (Real.sqrt 1073741824))⁻¹ : ℝ) : EReal)
  | "slope31" => some (((Real.sqrt (Real.sqrt 2147483648))⁻¹ : ℝ) : EReal)
  | "slope5" => some (((Real.sqrt (Real.sqrt 32))⁻¹ : ℝ) : EReal)
  | "slope6" => some (((Real.sqrt (Real.sqrt 64))⁻¹ : ℝ) : EReal)
  | "slope7" => some (((Real.sqrt (Real.sqrt 128))⁻¹ : ℝ) : EReal)
  | "slope9" => some (((Real.sqrt (Real.sqrt 512))⁻¹ : ℝ) : EReal)
  | _ => none
-- ==== SwaRefIdeal.lean ====
abbrev S8x4096x2560 : Shape := ⟨3, ![8, 4096, 2560]⟩
abbrev S64 : Shape := ⟨1, ![64]⟩
abbrev S32 : Shape := ⟨1, ![32]⟩
abbrev S8x4096x2048 : Shape := ⟨3, ![8, 4096, 2048]⟩
abbrev S8x4096x256 : Shape := ⟨3, ![8, 4096, 256]⟩
abbrev S8x4096x4x8x64 : Shape := ⟨5, ![8, 4096, 4, 8, 64]⟩
abbrev S_ : Shape := ⟨0, ![]⟩
abbrev S8x4096x4x8 : Shape := ⟨4, ![8, 4096, 4, 8]⟩
abbrev S8x4096x4x8x1 : Shape := ⟨5, ![8, 4096, 4, 8, 1]⟩
abbrev S1x1x1x1x64 : Shape := ⟨5, ![1, 1, 1, 1, 64]⟩
abbrev S8x4096x4x64 : Shape := ⟨4, ![8, 4096, 4, 64]⟩
abbrev S8x4096x4 : Shape := ⟨3, ![8, 4096, 4]⟩
abbrev S8x4096x4x1 : Shape := ⟨4, ![8, 4096, 4, 1]⟩
abbrev S1x1x1x64 : Shape := ⟨4, ![1, 1, 1, 64]⟩
abbrev S4x8 : Shape := ⟨2, ![4, 8]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x4x4096x4096x8 : Shape := ⟨5, ![8, 4, 4096, 4096, 8]⟩
abbrev S8x4x8x4096x4096 : Shape := ⟨5, ![8, 4, 8, 4096, 4096]⟩
abbrev S4x8x1x1 : Shape := ⟨4, ![4, 8, 1, 1]⟩
abbrev S1x1x4096x4096 : Shape := ⟨4, ![1, 1, 4096, 4096]⟩
abbrev S4x8x4096x4096 : Shape := ⟨4, ![4, 8, 4096, 4096]⟩
abbrev S1x4x8x4096x4096 : Shape := ⟨5, ![1, 4, 8, 4096, 4096]⟩
abbrev S8x4x8x4096 : Shape := ⟨4, ![8, 4, 8, 4096]⟩
abbrev S8x4x8x4096x1 : Shape := ⟨5, ![8, 4, 8, 4096, 1]⟩
abbrev S1x4x8x1x1 : Shape := ⟨5, ![1, 4, 8, 1, 1]⟩
abbrev S8x4x64x8x4096 : Shape := ⟨5, ![8, 4, 64, 8, 4096]⟩

abbrev nBuf : Space → Nat
  | .hbm => 115
  | .vmem => 0
  | .smem => 0
  | _ => 0

abbrev bufTy : (tb : Table) → Fin (tcTables nBuf tb) → BufTy
  | .hbm, ⟨0, _⟩ => ⟨S8x4096x2560, .f32⟩
  | .hbm, ⟨1, _⟩ => ⟨S64, .f32⟩
  | .hbm, ⟨2, _⟩ => ⟨S64, .f32⟩
  | .hbm, ⟨3, _⟩ => ⟨S32, .f32⟩
  | .hbm, ⟨4, _⟩ => ⟨S32, .f32⟩
  | .hbm, ⟨5, _⟩ => ⟨S8x4096x2048, .f32⟩
  | .hbm, ⟨6, _⟩ => ⟨S8x4096x256, .f32⟩
  | .hbm, ⟨7, _⟩ => ⟨S8x4096x256, .f32⟩
  | .hbm, ⟨8, _⟩ => ⟨S8x4096x4x8x64, .f32⟩
  | .hbm, ⟨9, _⟩ => ⟨S8x4096x4x8x64, .f32⟩
  | .hbm, ⟨10, _⟩ => ⟨S_, .f32⟩
  | .hbm, ⟨11, _⟩ => ⟨S8x4096x4x8, .f32⟩
  | .hbm, ⟨12, _⟩ => ⟨S8x4096x4x8x1, .f32⟩
  | .hbm, ⟨13, _⟩ => ⟨S_, .f32⟩
  | .hbm, ⟨14, _⟩ => ⟨S8x4096x4x8x1, .f32⟩
  | .hbm, ⟨15, _⟩ => ⟨S8x4096x4x8x1, .f32⟩
  | .hbm, ⟨16, _⟩ => ⟨S_, .f32⟩
  | .hbm, ⟨17, _⟩ => ⟨S8x4096x4x8x1, .f32⟩
  | .hbm, ⟨18, _⟩ => ⟨S8x4096x4x8x1, .f32⟩
  | .hbm, ⟨19, _⟩ => ⟨S8x4096x4x8x1, .f32⟩
  | .hbm, ⟨20, _⟩ => ⟨S8x4096x4x8x64, .f32⟩
  | .hbm, ⟨21, _⟩ => ⟨S8x4096x4x8x64, .f32⟩
  | .hbm, ⟨22, _⟩ => ⟨S1x1x1x1x64, .f32⟩
  | .hbm, ⟨23, _⟩ => ⟨S8x4096x4x8x64, .f32⟩
  | .hbm, ⟨24, _⟩ => ⟨S8x4096x4x8x64, .f32⟩
  | .hbm, ⟨25, _⟩ => ⟨S8x4096x4x64, .f32⟩
  | .hbm, ⟨26, _⟩ => ⟨S8x4096x4x64, .f32⟩
  | .hbm, ⟨27, _⟩ => ⟨S_, .f32⟩
  | .hbm, ⟨28, _⟩ => ⟨S8x4096x4, .f32⟩
  | .hbm, ⟨29, _⟩ => ⟨S8x4096x4x1, .f32⟩
  | .hbm, ⟨30, _⟩ => ⟨S_, .f32⟩
  | .hbm, ⟨31, _⟩ => ⟨S8x4096x4x1, .f32⟩
  | .hbm, ⟨32, _⟩ => ⟨S8x4096x4x1, .f32⟩
  | .hbm, ⟨33, _⟩ => ⟨S_, .f32⟩
  | .hbm, ⟨34, _⟩ => ⟨S8x4096x4x1, .f32⟩
  | .hbm, ⟨35, _⟩ => ⟨S8x4096x4x1, .f32⟩
  | .hbm, ⟨36, _⟩ => ⟨S8x4096x4x1, .f32⟩
  | .hbm, ⟨37, _⟩ => ⟨S8x4096x4x64, .f32⟩
  | .hbm, ⟨38, _⟩ => ⟨S8x4096x4x64, .f32⟩
  | .hbm, ⟨39, _⟩ => ⟨S1x1x1x64, .f32⟩
  | .hbm, ⟨40, _⟩ => ⟨S8x4096x4x64, .f32⟩
  | .hbm, ⟨41, _⟩ => ⟨S8x4096x4x64, .f32⟩
  | .hbm, ⟨42, _⟩ => ⟨S8x4096x4x64, .f32⟩
  | .hbm, ⟨43, _⟩ => ⟨S32, .f32⟩
  | .hbm, ⟨44, _⟩ => ⟨S32, .f32⟩
  | .hbm, ⟨45, _⟩ => ⟨S_, .f32⟩
  | .hbm, ⟨46, _⟩ => ⟨S32, .f32⟩
  | .hbm, ⟨47, _⟩ => ⟨S32, .f32⟩
  | .hbm, ⟨48, _⟩ => ⟨S4x8, .f32⟩
  | .hbm, ⟨49, _⟩ => ⟨S4096, .i32⟩
  | .hbm, ⟨50, _⟩ => ⟨S4096x1, .i32⟩
  | .hbm, ⟨51, _⟩ => ⟨S4096, .i32⟩
  | .hbm, ⟨52, _⟩ => ⟨S1x4096, .i32⟩
  | .hbm, ⟨53, _⟩ => ⟨S4096x4096, .i32⟩
  | .hbm, ⟨54, _⟩ => ⟨S4096x4096, .i32⟩
  | .hbm, ⟨55, _⟩ => ⟨S4096x4096, .i32⟩
  | .hbm, ⟨56, _⟩ => ⟨S_, .i32⟩
  | .hbm, ⟨57, _⟩ => ⟨S4096x4096, .i32⟩
  | .hbm, ⟨58, _⟩ => ⟨S4096x4096, .i1⟩
  | .hbm, ⟨59, _⟩ => ⟨S_, .i32⟩
  | .hbm, ⟨60, _⟩ => ⟨S4096x4096, .i32⟩
  | .hbm, ⟨61, _⟩ => ⟨S4096x4096, .i1⟩
  | .hbm, ⟨62, _⟩ => ⟨S4096x4096, .i1⟩
  | .hbm, ⟨63, _⟩ => ⟨S8x4x4096x4096x8, .f32⟩
  | .hbm, ⟨64, _⟩ => ⟨S8x4x8x4096x4096, .f32⟩
  | .hbm, ⟨65, _⟩ => ⟨S_, .f32⟩
  | .hbm, ⟨66, _⟩ => ⟨S8x4x8x4096x4096, .f32⟩
  | .hbm, ⟨67, _⟩ => ⟨S8x4x8x4096x4096, .f32⟩
  | .hbm, ⟨68, _⟩ => ⟨S4x8x1x1, .f32⟩
  | .hbm, ⟨69, _⟩ => ⟨S4096x4096, .f32⟩
  | .hbm, ⟨70, _⟩ => ⟨S1x1x4096x4096, .f32⟩
  | .hbm, ⟨71, _⟩ => ⟨S4x8x4096x4096, .f32⟩
  | .hbm, ⟨72, _⟩ => ⟨S4x8x4096x4096, .f32⟩
  | .hbm, ⟨73, _⟩ => ⟨S4x8x4096x4096, .f32⟩
  | .hbm, ⟨74, _⟩ => ⟨S1x4x8x4096x4096, .f32⟩
  | .hbm, ⟨75, _⟩ => ⟨S8x4x8x4096x4096, .f32⟩
  | .hbm, ⟨76, _⟩ => ⟨S8x4x8x4096x4096, .f32⟩
  | .hbm, ⟨77, _⟩ => ⟨S4x8, .f32⟩
  | .hbm, ⟨78, _⟩ => ⟨S4x8x1x1, .f32⟩
  | .hbm, ⟨79, _⟩ => ⟨S_, .f32⟩
  | .hbm, ⟨80, _⟩ => ⟨S_, .f32⟩
  | .hbm, ⟨81, _⟩ => ⟨S8x4x8x4096x4096, .i1⟩
  | .hbm, ⟨82, _⟩ => ⟨S8x4x8x4096x4096, .f32⟩
  | .hbm, ⟨83, _⟩ => ⟨S8x4x8x4096x4096, .f32⟩
  | .hbm, ⟨84, _⟩ => ⟨S_, .f32⟩
  | .hbm, ⟨85, _⟩ => ⟨S8x4x8x4096, .f32⟩
  | .hbm, ⟨86, _⟩ => ⟨S8x4x8x4096x1, .f32⟩
  | .hbm, ⟨87, _⟩ => ⟨S1x4x8x1x1, .f32⟩
  | .hbm, ⟨88, _⟩ => ⟨S8x4x8x4096x1, .f32⟩
  | .hbm, ⟨89, _⟩ => ⟨S8x4x8x4096x1, .f32⟩
  | .hbm, ⟨90, _⟩ => ⟨S8x4x8x4096x4096, .f32⟩
  | .hbm, ⟨91, _⟩ => ⟨S8x4x8x4096x4096, .f32⟩
  | .hbm, ⟨92, _⟩ => ⟨S8x4x8x4096x4096, .f32⟩
  | .hbm, ⟨93, _⟩ => ⟨S_, .f32⟩
  | .hbm, ⟨94, _⟩ => ⟨S_, .f32⟩
  | .hbm, ⟨95, _⟩ => ⟨S8x4x8x4096x4096, .i1⟩
  | .hbm, ⟨96, _⟩ => ⟨S8x4x8x4096x4096, .f32⟩
  | .hbm, ⟨97, _⟩ => ⟨S8x4x8x4096x4096, .f32⟩
  | .hbm, ⟨98, _⟩ => ⟨S_, .f32⟩
  | .hbm, ⟨99, _⟩ => ⟨S8x4x8x4096, .f32⟩
  | .hbm, ⟨100, _⟩ => ⟨S8x4x8x4096x1, .f32⟩
  | .hbm, ⟨101, _⟩ => ⟨S1x4x8x1x1, .f32⟩
  | .hbm, ⟨102, _⟩ => ⟨S8x4x8x4096x1, .f32⟩
  | .hbm, ⟨103, _⟩ => ⟨S8x4x8x4096x1, .f32⟩
  | .hbm, ⟨104, _⟩ => ⟨S8x4x8x4096x1, .f32⟩
  | .hbm, ⟨105, _⟩ => ⟨S8x4x8x4096x1, .f32⟩
  | .hbm, ⟨106, _⟩ => ⟨S_, .f32⟩
  | .hbm, ⟨107, _⟩ => ⟨S8x4x8x4096x1, .f32⟩
  | .hbm, ⟨108, _⟩ => ⟨S8x4x8x4096x1, .f32⟩
  | .hbm, ⟨109, _⟩ => ⟨S8x4x8x4096x4096, .f32⟩
  | .hbm, ⟨110, _⟩ => ⟨S8x4x8x4096x4096, .f32⟩
  | .hbm, ⟨111, _⟩ => ⟨S8x4x64x8x4096, .f32⟩
  | .hbm, ⟨112, _⟩ => ⟨S8x4096x4x8x64, .f32⟩
  | .hbm, ⟨113, _⟩ => ⟨S8x4096x2048, .f32⟩
  | .hbm, ⟨114, _⟩ => ⟨S8x4096x2048, .bf16⟩
  | _, _ => ⟨S8x4096x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_6 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_c : Ref sig .tc := ⟨.hbm, 56, rfl⟩
abbrev main_v44 : Ref sig .tc := ⟨.hbm, 57, rfl⟩
abbrev main_v45 : Ref sig .tc := ⟨.hbm, 58, rfl⟩
abbrev main_c_7 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_8 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_9 : Ref sig .tc := ⟨.hbm, 79, rfl⟩
abbrev main_call0_v0 : Ref sig .tc := ⟨.hbm, 80, rfl⟩
abbrev main_call0_v1 : Ref sig .tc := ⟨.hbm, 81, rfl⟩
abbrev main_call0_v2 : Ref sig .tc := ⟨.hbm, 82, rfl⟩
abbrev main_v64 : Ref sig .tc := ⟨.hbm, 83, rfl⟩
abbrev main_cst_10 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_11 : Ref sig .tc := ⟨.hbm, 93, rfl⟩
abbrev main_call1_v0 : Ref sig .tc := ⟨.hbm, 94, rfl⟩
abbrev main_call1_v1 : Ref sig .tc := ⟨.hbm, 95, rfl⟩
abbrev main_call1_v2 : Ref sig .tc := ⟨.hbm, 96, rfl⟩
abbrev main_v73 : Ref sig .tc := ⟨.hbm, 97, rfl⟩
abbrev main_cst_12 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_13 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩

abbrev nD : Nat := 1
abbrev τ : Topo := Topo.v7x

variable {F : FTy → Type} [FloatOps F]
-- ==== Proof.Moe.Pre.lean ====
/-
  What the precondition of the grouped feed-forward call says of its two tables: every entry of the expert table is one of
  the eight experts, and at least one tile is used.
-/
module

public import proofs.«01_k».proof.Defs
public import proofs.«01_k».proof.Proof.Gen.Pre_experts_exist
public import Idealize.ShloMosaic.Lib.Pointwise

@[expose] public section

noncomputable section

open Idealize.ShloMosaic Idealize.ShloMosaic.TcCoe

namespace Cert.Pre_experts_exist.Value

open Cert.Pre_experts_exist Cert.Pre_experts_exist.Gen

/-- A signed word between 0 and 7 is below 8 as a natural number. -/
theorem toNat_lt_eight (w : BitVec 32) (h0 : IntOp.cmpi .sge w 0#32 = 1#1) (h8 : IntOp.cmpi .slt w 8#32 = 1#1) : w.toNat < 8 := by
  have ofBool_eq_one (p : Bool) : (BitVec.ofBool p = 1#1) ↔ p = true := by cases p <;> decide
  simp only [ofBool_eq_one, IntOp.cmpi, BitVec.sle, BitVec.slt, decide_eq_true_eq, BitVec.toInt, BitVec.toNat_ofNat] at h0 h8
  have := w.isLt
  split at h0 <;> split at h8 <;> omega

/-- A signed word that is at least 1 reads as an integer that is at least 1. -/
theorem one_le_toInt (w : BitVec 32) (h : IntOp.cmpi .sge w 1#32 = 1#1) : 1 ≤ w.toInt := by
  have ofBool_eq_one (p : Bool) : (BitVec.ofBool p = 1#1) ↔ p = true := by cases p <;> decide
  simp only [ofBool_eq_one, IntOp.cmpi, BitVec.sle, decide_eq_true_eq] at h
  exact h

/-- The predicate, all ones, decoded: every table entry is below 8, and the count of used tiles is at least 1. -/
theorem decode {F : FTy → Type} [FloatOps F] (t : IVec S136 32) (n : IVec S1 32) (a : FVec F S69632x2048 .f32)
    (b : FVec F S8x2048x11264 .f32) (d : FVec F S8x5632x2048 .f32) (h : fn (F := F) t n a b d = fun _ => 1#1) :
    (∀ i : S136.Idx, (t i).toNat < 8) ∧ 1 ≤ (n (ix1 0)).toInt := by
  have andi_one (a b : BitVec 1) : IntOp.andi a b = 1#1 ↔ a = 1#1 ∧ b = 1#1 := by revert a b; decide
  have pre := fun y => congrFun h y
  simp only [fn, constantI, broadcastInDim, cmpi, andi, andi_one] at pre
  refine ⟨fun i => toNat_lt_eight _ (pre i).1.1 (pre i).1.2, one_le_toInt _ ?_⟩
  have h1 := (pre (ix1 0)).2
  refine Eq.trans (congrArg (fun j => IntOp.cmpi .sge (n j) 1#32) ?_) h1
  funext k
  obtain rfl : k = 0 := Subsingleton.elim _ _
  rfl

end Cert.Pre_experts_exist.Value

end
-- ==== Proof.Moe.Tables.lean ====
/-
  The grouped feed-forward call's two tables: the words its index maps and its branches read, the side conditions they
  ask under the precondition, and where every window's block lies.
-/
module

public import proofs.«01_k».proof.Proof.Gen.MoeIdeal.Frame
public import proofs.«01_k».proof.Proof.Moe.Pre

@[expose] public section

set_option maxRecDepth 16384

noncomputable section

open Idealize.ShloMosaic Idealize.ShloMosaic.TcCoe Idealize.SL.Sem
open Idealize.ShloMosaic.Pipeline (Dat)

namespace Cert.MoeIdeal.Value

open Cert.MoeIdeal Cert.MoeIdeal.Gen

variable {F : FTy → Type} [FloatOps F] (m : (ℓ : Loc nD τ sig) → Buf (Elt F) ℓ)

/-- The expert of row tile `i`, as the table holds it. -/
def te (i : Fin 136) : BitVec 32 := m (((0 : Dev nD) : Thread nD τ).loc main_arg0) (ix1 i)

/-- The count of used row tiles, as the table holds it. -/
def nu : BitVec 32 := m (((0 : Dev nD) : Thread nD τ).loc main_arg1) (ix1 0)

/-- Row tile `i` is used: its number is below the count. -/
def Used (i : ℕ) : Prop := (i : Int) < (nu m).toInt

/-- The tables' words that the precondition admits. -/
def Good : Prop := (∀ i, (te m i).toNat < 8) ∧ 1 ≤ (nu m).toInt

theorem tbl0 : tbl m 0 = m (((0 : Dev nD) : Thread nD τ).loc main_arg0) := V_main_arg0 m 0
theorem tbl1 : tbl m 1 = m (((0 : Dev nD) : Thread nD τ).loc main_arg1) := V_main_arg1 m 0

/-- An index map's read of the expert table is the row tile's expert. -/
theorem at0 (i : grid0.Coords) (off : Fin 1 → ℕ) (h) (hoff : off 0 = (i 0).val) :
    (tbl m).at 0 (Rect.unit (s := S136) off S1.size h) numel1_S1 = te m (i 0) := by
  show tbl m 0 _ = _
  rw [tbl0]
  refine congrArg (m (((0 : Dev nD) : Thread nD τ).loc main_arg0)) ?_
  refine funext fun (a : Fin 1) => ?_
  obtain rfl : a = 0 := Subsingleton.elim _ _
  refine Fin.ext ?_
  show off 0 + 1 * 0 = (i 0).val
  omega

/-- An index map's read of the count is the count. -/
theorem at1 (h) : (tbl m).at 1 (Rect.unit (s := S1) ![0] S1.size h) numel1_S1 = nu m := by
  show tbl m 1 _ = _
  rw [tbl1]
  refine congrArg (m (((0 : Dev nD) : Thread nD τ).loc main_arg1)) ?_
  refine funext fun (a : Fin 1) => ?_
  obtain rfl : a = 0 := Subsingleton.elim _ _
  exact Fin.ext rfl

/-- The body's read of the count is the count. -/
theorem readNu : tbM0_1.view.readAt (Elt F) (Rect.unit (s := S1) ![0] S1.size inb_S1_S1_0).toLoadRect (tbl m 1)
    (Shape.Idx.first (numel1_S1.symm ▸ Nat.one_pos)) = nu m := by
  rw [tbl1]
  refine Eq.trans (View.readAt_apply _ _ _) ?_
  refine congrArg (m (((0 : Dev nD) : Thread nD τ).loc main_arg1)) ?_
  refine funext fun (a : Fin 1) => ?_
  obtain rfl : a = 0 := Subsingleton.elim _ _
  exact Fin.ext rfl

/-- A one-bit condition widened and compared with zero is the condition. -/
theorem cond_iff (b : BitVec 1) : Scalar.cmpi .ne (Scalar.extui b) 0#32 = 1#1 ↔ b = 1#1 := by
  revert b; decide

/-- The signed comparison of a small number with the count. -/
theorem slt_iff (n : ℕ) (hn : n < 136) (w : BitVec 32) :
    Scalar.cmpi .slt (BitVec.ofNat 32 n) w = 1#1 ↔ (n : Int) < w.toInt := by
  have ofBool_eq_one (p : Bool) : (BitVec.ofBool p = 1#1) ↔ p = true := by cases p <;> decide
  simp only [Scalar.cmpi, IntOp.cmpi, ofBool_eq_one, BitVec.slt, decide_eq_true_eq]
  have : (BitVec.ofNat 32 n).toInt = n := by
    rw [BitVec.toInt_eq_toNat_of_lt (by rw [BitVec.toNat_ofNat]; omega), BitVec.toNat_ofNat]
    omega
  rw [this]

/-- A grid point's coordinates: the row tile `t / 11` and the block of the hidden axis `t % 11`. -/
theorem coords : ∀ t : Fin grid0.N, (grid0.coords t 0).val = t.val / 11 ∧ (grid0.coords t 1).val = t.val % 11 :=
  (by decide +kernel : ∀ t : Fin grid0.N, _)

/-- The second branch is taken at the used tiles. -/
theorem cond1 (t : Fin grid0.N) : cond0_1 (grid0.coords t)
    (tbM0_1.view.readAt (Elt F) (Rect.unit (s := S1) ![0] S1.size inb_S1_S1_0).toLoadRect (tbl m 1)
      (Shape.Idx.first (numel1_S1.symm ▸ Nat.one_pos))) ↔ Used m (t.val / 11) := by
  rw [readNu]
  unfold cond0_1 Used
  rw [cond_iff, slt_iff _ (grid0.coords t 0).isLt, (coords t).1]

/-- The first branch is taken at the first block of a used tile. -/
theorem cond0 (t : Fin grid0.N) : cond0_0 (grid0.coords t)
    (tbM0_1.view.readAt (Elt F) (Rect.unit (s := S1) ![0] S1.size inb_S1_S1_0).toLoadRect (tbl m 1)
      (Shape.Idx.first (numel1_S1.symm ▸ Nat.one_pos))) ↔ Used m (t.val / 11) ∧ t.val % 11 = 0 := by
  have andi_one (a b : BitVec 1) : Scalar.andi a b = 1#1 ↔ a = 1#1 ∧ b = 1#1 := by revert a b; decide
  rw [readNu]
  unfold cond0_0 Used
  rw [cond_iff, andi_one, slt_iff _ (grid0.coords t 0).isLt, (coords t).1]
  refine and_congr_right fun _ => ?_
  have h2 := hcond0_2 t
  unfold cond0_2 at h2
  rw [cond_iff] at h2
  exact h2

/-- Where an index map that stops at the used tiles takes its block: the grid's own at a used tile, the first elsewhere. -/
def blkOf (t : ℕ × ℕ) : ℕ := open Classical in if Used m t.1 then t.2 else 0

theorem sel_toNat (i : grid0.Coords) :
    (Scalar.select (Scalar.cmpi .slt (BitVec.ofNat 32 (i 0).val) (nu m)) (BitVec.ofNat 32 (i 1).val) 0#32).toNat
      = blkOf m ((i 0).val, (i 1).val) := by
  have h0 : (i 0).val < 136 := (i 0).isLt
  have h1 : (i 1).val < 11 := (i 1).isLt
  unfold blkOf
  by_cases h : Used m (i 0).val
  · rw [if_pos h, (slt_iff _ h0 (nu m)).mpr h]
    show (BitVec.ofNat 32 (i 1).val).toNat = _
    rw [BitVec.toNat_ofNat]; omega
  · rw [if_neg h]
    have h' : Scalar.cmpi .slt (BitVec.ofNat 32 (i 0).val) (nu m) ≠ 1#1 := fun e => h ((slt_iff _ h0 (nu m)).mp e)
    have : ∀ b : BitVec 1, b ≠ 1#1 → b = 0#1 := by decide
    rw [this _ h']
    rfl

theorem blkOf_lt (i : grid0.Coords) : blkOf m ((i 0).val, (i 1).val) < 11 := by
  have h1 : (i 1).val < 11 := (i 1).isLt
  unfold blkOf
  split <;> first | exact h1 | omega

theorem off1 (i : grid0.Coords) : k0_off1 i 0 = (i 0).val := by
  have h0 : (i 0).val < 136 := (i 0).isLt
  show (BitVec.ofNat 32 (i 0).val).toNat = _
  rw [BitVec.toNat_ofNat]; omega

/-- The gate half's block: the tile's expert, every input row, the block of hidden columns. -/
theorem tr1 (i : grid0.Coords) : cc0_transform_1 k0_off1_inb numel1_S1 inb_S1_S1_0 (tbl m) i
    = ![(te m (i 0)).toNat, 0, blkOf m ((i 0).val, (i 1).val)] := by
  show ![((tbl m).at 0 (Rect.unit (s := S136) (k0_off1 i) S1.size (k0_off1_inb i)) numel1_S1 : BitVec 32).toNat, 0,
    (Scalar.select (Scalar.cmpi .slt (BitVec.ofNat 32 (i 0).val)
    ((tbl m).at 1 (Rect.unit (s := S1) ![0] S1.size inb_S1_S1_0) numel1_S1 : BitVec 32)) (BitVec.ofNat 32 (i 1).val) 0#32).toNat] = _
  rw [at0 m i _ _ (off1 i), at1, sel_toNat]

/-- The up half's block: the same, eleven blocks further. -/
theorem tr2 (i : grid0.Coords) : cc0_transform_2 k0_off1_inb numel1_S1 inb_S1_S1_0 (tbl m) i
    = ![(te m (i 0)).toNat, 0, 11 + blkOf m ((i 0).val, (i 1).val)] := by
  show ![((tbl m).at 0 (Rect.unit (s := S136) (k0_off1 i) S1.size (k0_off1_inb i)) numel1_S1 : BitVec 32).toNat, 0,
    (Scalar.addi 11#32 (Scalar.select (Scalar.cmpi .slt (BitVec.ofNat 32 (i 0).val)
    ((tbl m).at 1 (Rect.unit (s := S1) ![0] S1.size inb_S1_S1_0) numel1_S1 : BitVec 32)) (BitVec.ofNat 32 (i 1).val) 0#32)).toNat] = _
  rw [at0 m i _ _ (off1 i), at1]
  have h : (Scalar.addi 11#32 (Scalar.select (Scalar.cmpi .slt (BitVec.ofNat 32 (i 0).val) (nu m)) (BitVec.ofNat 32 (i 1).val) 0#32)).toNat
      = 11 + blkOf m ((i 0).val, (i 1).val) := by
    have hb := blkOf_lt m i
    rw [← sel_toNat] at hb ⊢
    show (11#32 + _ : BitVec 32).toNat = _
    rw [BitVec.toNat_add]
    simp only [BitVec.toNat_ofNat]
    omega
  rw [h]

/-- The down projection's block: the tile's expert, the block of hidden rows, every output column. -/
theorem tr3 (i : grid0.Coords) : cc0_transform_3 k0_off1_inb numel1_S1 inb_S1_S1_0 (tbl m) i
    = ![(te m (i 0)).toNat, blkOf m ((i 0).val, (i 1).val), 0] := by
  show ![((tbl m).at 0 (Rect.unit (s := S136) (k0_off1 i) S1.size (k0_off1_inb i)) numel1_S1 : BitVec 32).toNat,
    (Scalar.select (Scalar.cmpi .slt (BitVec.ofNat 32 (i 0).val)
    ((tbl m).at 1 (Rect.unit (s := S1) ![0] S1.size inb_S1_S1_0) numel1_S1 : BitVec 32)) (BitVec.ofNat 32 (i 1).val) 0#32).toNat, 0] = _
  rw [at0 m i _ _ (off1 i), at1, sel_toNat]

/-- Every block that the tables name lies inside its array and starts on a whole word. -/
theorem ok_of_good (h : Good m) : Ok m := by
  refine ⟨fun i => ?_, fun i => ?_, fun i => ?_⟩
  · have hb := blkOf_lt m i
    have he := h.1 (i 0)
    have hin : ∀ a, (cc0_transform_1 k0_off1_inb numel1_S1 inb_S1_S1_0 (tbl m) i a + 1) * S1x2048x512.size a
        ≤ S8x2048x11264.size a := by
      rw [tr1]
      intro a
      match a with
      | 0 => show ((te m (i 0)).toNat + 1) * 1 ≤ 8; omega
      | 1 => show (0 + 1) * 2048 ≤ 2048; omega
      | 2 => show (blkOf m ((i 0).val, (i 1).val) + 1) * 512 ≤ 11264; omega
    refine ⟨hin, Or.inr (Or.inr ⟨by decide, rfl, ?_, rfl⟩)⟩
    show cc0_transform_1 k0_off1_inb numel1_S1 inb_S1_S1_0 (tbl m) i 1 * 2048 = 0
    rw [tr1]; rfl
  · have hb := blkOf_lt m i
    have he := h.1 (i 0)
    have hin : ∀ a, (cc0_transform_2 k0_off1_inb numel1_S1 inb_S1_S1_0 (tbl m) i a + 1) * S1x2048x512.size a
        ≤ S8x2048x11264.size a := by
      rw [tr2]
      intro a
      match a with
      | 0 => show ((te m (i 0)).toNat + 1) * 1 ≤ 8; omega
      | 1 => show (0 + 1) * 2048 ≤ 2048; omega
      | 2 => show (11 + blkOf m ((i 0).val, (i 1).val) + 1) * 512 ≤ 11264; omega
    refine ⟨hin, Or.inr (Or.inr ⟨by decide, rfl, ?_, rfl⟩)⟩
    show cc0_transform_2 k0_off1_inb numel1_S1 inb_S1_S1_0 (tbl m) i 1 * 2048 = 0
    rw [tr2]; rfl
  · have hb := blkOf_lt m i
    have he := h.1 (i 0)
    have hin : ∀ a, (cc0_transform_3 k0_off1_inb numel1_S1 inb_S1_S1_0 (tbl m) i a + 1) * S1x512x2048.size a
        ≤ S8x5632x2048.size a := by
      rw [tr3]
      intro a
      match a with
      | 0 => show ((te m (i 0)).toNat + 1) * 1 ≤ 8; omega
      | 1 => show (blkOf m ((i 0).val, (i 1).val) + 1) * 512 ≤ 5632; omega
      | 2 => show (0 + 1) * 2048 ≤ 2048; omega
    refine ⟨hin, Or.inr (Or.inl (Or.inr ⟨by decide, rfl, Or.inl ⟨?_, ?_⟩⟩))⟩
    · show 2 ∣ cc0_transform_3 k0_off1_inb numel1_S1 inb_S1_S1_0 (tbl m) i 1 * 512
      exact Dvd.dvd.mul_left (by decide) _
    · show 2 ∣ 512
      decide

/-- The first grid point's tile is used, so nothing is read there before it is stored. -/
theorem hyps_of_good (h : Good m) (hO : Ok m) : Hyps m hO := by
  refine Hyps.of (fun c t h0 h1 _ => ?_) (fun c t h0 h1 h2 _ _ => ?_) (fun c t h0 h1 _ hz => ?_)
  · exact absurd ((cond1 m t).mpr ((cond0 m t).mp h0).1) h1
  · exact absurd ((cond0 m t).mpr ⟨(cond1 m t).mp h1, (hcond0_2 t).mp h2⟩) h0
  · refine h1 ((cond1 m t).mpr ?_)
    have ht : t.val < 1496 := lt_of_lt_of_eq t.isLt (show (cfgM m hO).N = 1496 from N_0)
    have : t.val / 11 = 0 := by omega
    unfold Used
    rw [this]
    have := h.2
    omega

/-- The precondition admits good tables. -/
theorem good_of_pre (t : IVec Cert.Pre_experts_exist.S136 32) (n : IVec Cert.Pre_experts_exist.S1 32)
    (a : FVec F Cert.Pre_experts_exist.S69632x2048 .f32) (b : FVec F Cert.Pre_experts_exist.S8x2048x11264 .f32)
    (d : FVec F Cert.Pre_experts_exist.S8x5632x2048 .f32)
    (ht : t = m (((0 : Dev nD) : Thread nD τ).loc main_arg0)) (hn : n = m (((0 : Dev nD) : Thread nD τ).loc main_arg1))
    (h : @Cert.Pre_experts_exist.fn Cert.Pre_experts_exist.Gen.facts F _ t n a b d = fun _ => 1#1) : Good m := by
  have := Cert.Pre_experts_exist.Value.decode t n a b d h
  subst ht hn
  exact ⟨fun i => this.1 (ix1 i), this.2⟩

end Cert.MoeIdeal.Value

end
-- ==== Proof.Ffn.Act.lean ====
/-
  The activation that the dense and the grouped feed-forward calls share.
-/
module

public import Idealize.ShloMosaic.Lib.Pointwise

@[expose] public section

noncomputable section

open Idealize.ShloMosaic

namespace Cert.Ffn

/-- The SwiGLU activation of one hidden unit: its gate times the gate's logistic, times its up projection. -/
def act (g u : EReal) : EReal := g * Ideal.div 1 (1 + Ideal.exp (-g)) * u

end Cert.Ffn

end
-- ==== Proof.Moe.Ref.lean ====
/-
  The grouped call's reference: at row `r` the sum over the eight experts of the row's combine weight times the expert's
  SwiGLU, where the weight is one for the row's own expert, if the row's tile is used, and zero elsewhere.
-/
module

public import proofs.«01_k».proof.Proof.Gen.MoeRefIdeal.Run
public import proofs.«01_k».proof.Proof.Ffn.Act
public import Idealize.ShloMosaic.Lib.Pointwise

@[expose] public section

set_option maxRecDepth 16384

noncomputable section

open Idealize.ShloMosaic Idealize.ShloMosaic.TcCoe

namespace Cert.MoeRefIdeal.Value

open Cert.MoeRefIdeal Cert.MoeRefIdeal.Gen Cert.Ffn

/-- The combine weights: row by expert, one where the row's tile is used and the expert is the tile's. -/
def COMB (a0 : IVec S136 32) (a1 : IVec S1 32) : FVec Ideal S69632x8 .f32 :=
  select (broadcastInDim S69632x8 ![0, 1] bcast_S69632x1_S69632x8_0_1 (broadcastInDim S69632x1 ![0] bcast_S69632_S69632x1_0 (shapeCast _ (broadcastInDim S136x512 ![0] bcast_S136_S136x512_0 (cmpi .slt (iotaInDim S136 32 0) (broadcastInDim S136 ![] bcast_S_S136 (shapeCast _ a1 shapeCasts_S1_S_)))) shapeCasts_S136x512_S69632))) (uitofp .f32 (cmpi .eq (broadcastInDim S69632x8 ![0, 1] bcast_S69632x1_S69632x8_0_1 (broadcastInDim S69632x1 ![0] bcast_S69632_S69632x1_0 (shapeCast _ (broadcastInDim S136x512 ![0] bcast_S136_S136x512_0 a0) shapeCasts_S136x512_S69632))) (broadcastInDim S69632x8 ![0, 1] bcast_S1x8_S69632x8_0_1 (iotaInDim S1x8 32 1)))) (broadcastInDim S69632x8 ![] bcast_S_S69632x8 (id (constant S_ .f32 0x00000000#32)))

/-- Gate and up projections of every row by one expert. -/
def PROJ (e : ℕ) (h3 : S8x2048x11264.Slices ![e, 0, 0] S1x2048x11264) (a2 : FVec Ideal S69632x2048 .f32)
    (a3 : FVec Ideal S8x2048x11264 .f32) : FVec Ideal S69632x11264 .f32 :=
  Host.dotGeneral dot_S69632x2048_S2048x11264_S69632x11264_1_0_0_1_n_n none a2 (shapeCast _ (extractStridedSlice S1x2048x11264 ![e, 0, 0] a3 h3) shapeCasts_S1x2048x11264_S2048x11264)

/-- The gate half of the projections. -/
def GATE (e : ℕ) (h3 : S8x2048x11264.Slices ![e, 0, 0] S1x2048x11264) (a2 : FVec Ideal S69632x2048 .f32)
    (a3 : FVec Ideal S8x2048x11264 .f32) : FVec Ideal S69632x5632 .f32 :=
  extractStridedSlice S69632x5632 ![0, 0] (PROJ e h3 a2 a3) slices_S69632x11264_S69632x5632_0_0

/-- One expert's weighted SwiGLU of every row. -/
def TERM (e : ℕ) (h3 : S8x2048x11264.Slices ![e, 0, 0] S1x2048x11264) (h4 : S8x5632x2048.Slices ![e, 0, 0] S1x5632x2048)
    (hc : S69632x8.Slices ![0, e] S69632x1) (a0 : IVec S136 32) (a1 : IVec S1 32) (a2 : FVec Ideal S69632x2048 .f32)
    (a3 : FVec Ideal S8x2048x11264 .f32) (a4 : FVec Ideal S8x5632x2048 .f32) : FVec Ideal S69632x2048 .f32 :=
  mulf (broadcastInDim S69632x2048 ![0, 1] bcast_S69632x1_S69632x2048_0_1 (extractStridedSlice S69632x1 ![0, e] (COMB a0 a1) hc))
    (Host.dotGeneral dot_S69632x5632_S5632x2048_S69632x2048_1_0_0_1_n_n none
      (mulf (mulf (GATE e h3 a2 a3) (Host.divf (broadcastInDim S69632x5632 ![] bcast_S_S69632x5632 (constant S_ .f32 0x3F800000#32))
        (addf (broadcastInDim S69632x5632 ![] bcast_S_S69632x5632 (constant S_ .f32 0x3F800000#32)) (Host.exp (Host.negf (GATE e h3 a2 a3))))))
        (extractStridedSlice S69632x5632 ![0, 5632] (PROJ e h3 a2 a3) slices_S69632x11264_S69632x5632_0_5632))
      (shapeCast _ (extractStridedSlice S1x5632x2048 ![e, 0, 0] a4 h4) shapeCasts_S1x5632x2048_S5632x2048))

/-- The reference's result as a function of its five arguments: zero plus the eight experts' terms. -/
def REF (a0 : IVec S136 32) (a1 : IVec S1 32) (a2 : FVec Ideal S69632x2048 .f32)
    (a3 : FVec Ideal S8x2048x11264 .f32) (a4 : FVec Ideal S8x5632x2048 .f32) : FVec Ideal S69632x2048 .f32 :=
  addf (addf (addf (addf (addf (addf (addf (addf (broadcastInDim S69632x2048 ![] bcast_S_S69632x2048 (constant S_ .f32 0x00000000#32))
  (TERM 0 slices_S8x2048x11264_S1x2048x11264_0_0_0 slices_S8x5632x2048_S1x5632x2048_0_0_0 slices_S69632x8_S69632x1_0_0 a0 a1 a2 a3 a4))
  (TERM 1 slices_S8x2048x11264_S1x2048x11264_1_0_0 slices_S8x5632x2048_S1x5632x2048_1_0_0 slices_S69632x8_S69632x1_0_1 a0 a1 a2 a3 a4))
  (TERM 2 slices_S8x2048x11264_S1x2048x11264_2_0_0 slices_S8x5632x2048_S1x5632x2048_2_0_0 slices_S69632x8_S69632x1_0_2 a0 a1 a2 a3 a4))
  (TERM 3 slices_S8x2048x11264_S1x2048x11264_3_0_0 slices_S8x5632x2048_S1x5632x2048_3_0_0 slices_S69632x8_S69632x1_0_3 a0 a1 a2 a3 a4))
  (TERM 4 slices_S8x2048x11264_S1x2048x11264_4_0_0 slices_S8x5632x2048_S1x5632x2048_4_0_0 slices_S69632x8_S69632x1_0_4 a0 a1 a2 a3 a4))
  (TERM 5 slices_S8x2048x11264_S1x2048x11264_5_0_0 slices_S8x5632x2048_S1x5632x2048_5_0_0 slices_S69632x8_S69632x1_0_5 a0 a1 a2 a3 a4))
  (TERM 6 slices_S8x2048x11264_S1x2048x11264_6_0_0 slices_S8x5632x2048_S1x5632x2048_6_0_0 slices_S69632x8_S69632x1_0_6 a0 a1 a2 a3 a4))
  (TERM 7 slices_S8x2048x11264_S1x2048x11264_7_0_0 slices_S8x5632x2048_S1x5632x2048_7_0_0 slices_S69632x8_S69632x1_0_7 a0 a1 a2 a3 a4)

variable (a0 : IVec S136 32) (a1 : IVec S1 32) (a2 : FVec Ideal S69632x2048 .f32)
  (a3 : FVec Ideal S8x2048x11264 .f32) (a4 : FVec Ideal S8x5632x2048 .f32)

/-- A one-bit comparison is one exactly when what it compares holds: signed order of a small number and a word. -/
theorem slt_iff (n : ℕ) (hn : n < 136) (w : BitVec 32) : IntOp.cmpi .slt (BitVec.ofNat 32 n) w = 1#1 ↔ (n : Int) < w.toInt := by
  have ofBool_eq_one (p : Bool) : (BitVec.ofBool p = 1#1) ↔ p = true := by cases p <;> decide
  simp only [IntOp.cmpi, ofBool_eq_one, BitVec.slt, decide_eq_true_eq]
  have : (BitVec.ofNat 32 n).toInt = n := by
    rw [BitVec.toInt_eq_toNat_of_lt (by rw [BitVec.toNat_ofNat]; omega), BitVec.toNat_ofNat]
    omega
  rw [this]

/-- The same of equality of a word with a small number. -/
theorem eq_iff (w : BitVec 32) (e : ℕ) (he : e < 8) : IntOp.cmpi .eq w (BitVec.ofNat 32 e) = 1#1 ↔ w.toNat = e := by
  have ofBool_eq_one (p : Bool) : (BitVec.ofBool p = 1#1) ↔ p = true := by cases p <;> decide
  simp only [IntOp.cmpi, ofBool_eq_one, beq_iff_eq]
  rw [← BitVec.toNat_inj, BitVec.toNat_ofNat, Nat.mod_eq_of_lt (by omega)]

/-- The weight as the operations spell it: a selection of the widened comparison. -/
theorem weight (n : ℕ) (w x : BitVec 32) (e : ℕ) (hn : n < 136) (he : e < 8) :
    Scalar.select (IntOp.cmpi .slt (BitVec.ofNat 32 n) w)
      (FloatOps.uitofp (F := Ideal) FTy.f32 (IntOp.cmpi .eq x (BitVec.ofNat 32 e))) (0 : EReal)
    = if (n : Int) < w.toInt ∧ x.toNat = e then 1 else 0 := by
  have bit : ∀ b : BitVec 1, b = 1#1 ∨ b = 0#1 := by decide
  have h1 := slt_iff n hn w
  have h2 := eq_iff x e he
  rcases bit (IntOp.cmpi .slt (BitVec.ofNat 32 n) w) with h | h <;> rcases bit (IntOp.cmpi .eq x (BitVec.ofNat 32 e)) with h' | h' <;>
    rw [h] at h1 ⊢ <;> rw [h'] at h2 ⊢
  · rw [if_pos ⟨h1.mp rfl, h2.mp rfl⟩]
    show ((1 : ℕ) : EReal) = 1
    exact Nat.cast_one
  · rw [if_neg fun h => absurd (h2.mpr h.2) (by decide)]
    show ((0 : ℕ) : EReal) = 0
    exact Nat.cast_zero
  · rw [if_neg fun h => absurd (h1.mpr h.1) (by decide)]
    rfl
  · rw [if_neg fun h => absurd (h1.mpr h.1) (by decide)]
    rfl

/-- A combine weight, read at a row and an expert. -/
theorem comb_at (r : Fin 69632) (e : Fin 8) : COMB a0 a1 (ix2 r e)
    = if (r.val / 512 : ℕ) < (a1 (ix1 0)).toInt ∧ (a0 (ix1 ⟨r.val / 512, by omega⟩)).toNat = e.val then 1 else 0 := by
  pointwise [COMB, id]
  exact weight _ _ _ _ (by omega) e.isLt

/-- One expert's SwiGLU of one row, at an output column. -/
def glu (e : Fin 8) (r : Fin 69632) (d : Fin 2048) : EReal :=
  ∑ x : Fin 5632, act (∑ l : Fin 2048, a2 (ix2 r l) * a3 (ix3 e l ⟨x.val, by omega⟩))
    (∑ l : Fin 2048, a2 (ix2 r l) * a3 (ix3 e l ⟨5632 + x.val, by omega⟩)) * a4 (ix3 e x d)

/-- One expert's term, read at a row and a column. -/
theorem term_at (e : Fin 8) (h3) (h4) (hc) (r : Fin 69632) (d : Fin 2048) :
    TERM e.val h3 h4 hc a0 a1 a2 a3 a4 (ix2 r d) = COMB a0 a1 (ix2 r e) * glu a2 a3 a4 e r d := by
  pointwise [TERM, GATE, PROJ]
  rfl

/-- Of eight terms weighted one at `k` and zero elsewhere, the sum is the term at `k`. -/
theorem pick (k : Fin 8) (w T : Fin 8 → EReal) (h : ∀ e, w e = if k.val = e.val then 1 else 0) :
    0 + w 0 * T 0 + w 1 * T 1 + w 2 * T 2 + w 3 * T 3 + w 4 * T 4 + w 5 * T 5 + w 6 * T 6 + w 7 * T 7 = T k := by
  simp only [h]
  fin_cases k <;> simp

/-- Of eight terms all weighted zero the sum is zero. -/
theorem drop (w T : Fin 8 → EReal) (h : ∀ e, w e = 0) :
    0 + w 0 * T 0 + w 1 * T 1 + w 2 * T 2 + w 3 * T 3 + w 4 * T 4 + w 5 * T 5 + w 6 * T 6 + w 7 * T 7 = 0 := by
  simp only [h]
  simp

/-- The reference's result, read at a row and a column, as the eight terms. -/
theorem ref_sum (r : Fin 69632) (d : Fin 2048) : REF a0 a1 a2 a3 a4 (ix2 r d)
    = 0 + COMB a0 a1 (ix2 r 0) * glu a2 a3 a4 0 r d + COMB a0 a1 (ix2 r 1) * glu a2 a3 a4 1 r d
      + COMB a0 a1 (ix2 r 2) * glu a2 a3 a4 2 r d + COMB a0 a1 (ix2 r 3) * glu a2 a3 a4 3 r d
      + COMB a0 a1 (ix2 r 4) * glu a2 a3 a4 4 r d + COMB a0 a1 (ix2 r 5) * glu a2 a3 a4 5 r d
      + COMB a0 a1 (ix2 r 6) * glu a2 a3 a4 6 r d + COMB a0 a1 (ix2 r 7) * glu a2 a3 a4 7 r d := by
  simp only [← term_at a0 a1 a2 a3 a4 0 slices_S8x2048x11264_S1x2048x11264_0_0_0 slices_S8x5632x2048_S1x5632x2048_0_0_0 slices_S69632x8_S69632x1_0_0 r d,
    ← term_at a0 a1 a2 a3 a4 1 slices_S8x2048x11264_S1x2048x11264_1_0_0 slices_S8x5632x2048_S1x5632x2048_1_0_0 slices_S69632x8_S69632x1_0_1 r d,
    ← term_at a0 a1 a2 a3 a4 2 slices_S8x2048x11264_S1x2048x11264_2_0_0 slices_S8x5632x2048_S1x5632x2048_2_0_0 slices_S69632x8_S69632x1_0_2 r d,
    ← term_at a0 a1 a2 a3 a4 3 slices_S8x2048x11264_S1x2048x11264_3_0_0 slices_S8x5632x2048_S1x5632x2048_3_0_0 slices_S69632x8_S69632x1_0_3 r d,
    ← term_at a0 a1 a2 a3 a4 4 slices_S8x2048x11264_S1x2048x11264_4_0_0 slices_S8x5632x2048_S1x5632x2048_4_0_0 slices_S69632x8_S69632x1_0_4 r d,
    ← term_at a0 a1 a2 a3 a4 5 slices_S8x2048x11264_S1x2048x11264_5_0_0 slices_S8x5632x2048_S1x5632x2048_5_0_0 slices_S69632x8_S69632x1_0_5 r d,
    ← term_at a0 a1 a2 a3 a4 6 slices_S8x2048x11264_S1x2048x11264_6_0_0 slices_S8x5632x2048_S1x5632x2048_6_0_0 slices_S69632x8_S69632x1_0_6 r d,
    ← term_at a0 a1 a2 a3 a4 7 slices_S8x2048x11264_S1x2048x11264_7_0_0 slices_S8x5632x2048_S1x5632x2048_7_0_0 slices_S69632x8_S69632x1_0_7 r d]
  pointwise [REF]

/-- The reference's result at a row of a used tile: the SwiGLU of the tile's expert. -/
theorem ref_used (r : Fin 69632) (d : Fin 2048) (hu : (r.val / 512 : ℕ) < (a1 (ix1 0)).toInt)
    (he : (a0 (ix1 ⟨r.val / 512, by omega⟩)).toNat < 8) :
    REF a0 a1 a2 a3 a4 (ix2 r d) = glu a2 a3 a4 ⟨(a0 (ix1 ⟨r.val / 512, by omega⟩)).toNat, he⟩ r d := by
  rw [ref_sum]
  refine pick ⟨(a0 (ix1 ⟨r.val / 512, by omega⟩)).toNat, he⟩ (fun e => COMB a0 a1 (ix2 r e)) (fun e => glu a2 a3 a4 e r d) fun e => ?_
  rw [comb_at]
  exact if_congr (and_iff_right hu) rfl rfl

/-- The reference's result at a row of an unused tile is zero. -/
theorem ref_unused (r : Fin 69632) (d : Fin 2048) (hu : ¬(r.val / 512 : ℕ) < (a1 (ix1 0)).toInt) :
    REF a0 a1 a2 a3 a4 (ix2 r d) = 0 := by
  rw [ref_sum]
  refine drop (fun e => COMB a0 a1 (ix2 r e)) (fun e => glu a2 a3 a4 e r d) fun e => ?_
  rw [comb_at]
  exact if_neg fun h => hu h.1

open Idealize.SL.Sem in
/-- The reference runs and leaves that function of its arguments. -/
theorem result (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v123) = REF (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun _ h c => ⟨(h c).1.trans rfl, (h c).2⟩) (run m ρ)

end Cert.MoeRefIdeal.Value

end
-- ==== Proof.Moe.Value.lean ====
/-
  The grouped feed-forward call's value: what its blocks read, what its accumulator holds, what it leaves.
-/
module

public import Idealize.ShloMosaic.Lib.Pointwise
public import Idealize.ShloMosaic.Lib.Pipeline.ValueKit
public import Idealize.ShloMosaic.Lib.Pipeline.ReadBack
public import proofs.«01_k».proof.Proof.Moe.Tables
public import proofs.«01_k».proof.Proof.Moe.Ref

@[expose] public section

set_option maxRecDepth 16384

noncomputable section

open Idealize.ShloMosaic Idealize.ShloMosaic.TcCoe Idealize.SL.Sem
open Idealize.ShloMosaic.Pipeline (Dat)

namespace Cert.MoeIdeal.Value

open Cert.MoeIdeal Cert.MoeIdeal.Gen Cert.Ffn

/-- One block's part of the down projection at a row and column: the block's hidden units, activated, against its rows
    of the expert's down matrix. -/
theorem part_at (v0 : FVec Ideal S512x2048 .bf16) (v1 v4 : FVec Ideal S1x2048x512 .bf16) (v11 : FVec Ideal S1x512x2048 .bf16)
    (j : S512x2048.Idx) :
    k0_pay2 (F := Ideal) v0 v1 v4 v11 j
      = ∑ x : Fin 512, act (∑ l : Fin 2048, v0 (ix2 (j 0) l) * v1 (ix3 0 l x)) (∑ l : Fin 2048, v0 (ix2 (j 0) l) * v4 (ix3 0 l x))
          * v11 (ix3 0 x (j 1)) := by
  pointwise [k0_pay2]
  rfl

/-- The first block's payload is its part. -/
theorem first_at (v0 : FVec Ideal S512x2048 .bf16) (v1 v4 : FVec Ideal S1x2048x512 .bf16) (v11 : FVec Ideal S1x512x2048 .bf16)
    (j : S512x2048.Idx) : k0_pay3 (F := Ideal) v0 v1 v4 v11 j = k0_pay2 (F := Ideal) v0 v1 v4 v11 j := by
  pointwise [k0_pay3]

/-- A later block's payload is what the accumulator held and its part. -/
theorem next_at (v0 : FVec Ideal S512x2048 .bf16) (v1 v4 : FVec Ideal S1x2048x512 .bf16) (v11 : FVec Ideal S1x512x2048 .bf16)
    (acc : FVec Ideal S512x2048 .f32) (j : S512x2048.Idx) :
    k0_pay4 (F := Ideal) v0 v1 v4 v11 acc j = acc j + k0_pay2 (F := Ideal) v0 v1 v4 v11 j := by
  pointwise [k0_pay4]

variable (m : (ℓ : Loc nD τ sig) → Buf (Elt Ideal) ℓ) (hO : Ok m)

/-- The row tile of a grid point. -/
abbrev tile (t : Fin (cfgM m hO).N) : Fin 136 := grid0.coords t 0

theorem tile_val (t : Fin (cfgM m hO).N) : (tile m hO t).val = t.val / 11 := (coords t).1

/-- The input rows' block lies at the row tile. -/
theorem win0_idx (t : Fin (cfgM m hO).N) : ((cfgM m hO).win 0).index t = ![t.val / 11, 0] :=
  (by decide +kernel : ∀ t : Fin grid0.N, cc0_transform_0 (grid0.coords t) = ![t.val / 11, 0]) t

/-- The result's block lies at the row tile. -/
theorem win4_idx (t : Fin (cfgM m hO).N) : ((cfgM m hO).win 4).index t = ![t.val / 11, 0] :=
  (by decide +kernel : ∀ t : Fin grid0.N, cc0_transform_4 (grid0.coords t) = ![t.val / 11, 0]) t

/-- A used tile's block of the hidden axis is the grid point's own. -/
theorem blk_used (t : Fin (cfgM m hO).N) (hu : Used m (t.val / 11)) :
    blkOf m ((grid0.coords t 0).val, (grid0.coords t 1).val) = t.val % 11 := by
  rw [(coords t).1, (coords t).2]
  exact if_pos hu

theorem win1_idx (t : Fin (cfgM m hO).N) (hu : Used m (t.val / 11)) :
    ((cfgM m hO).win 1).index t = ![(te m (tile m hO t)).toNat, 0, t.val % 11] := by
  refine (tr1 m (grid0.coords t)).trans ?_
  rw [blk_used m hO t hu]

theorem win2_idx (t : Fin (cfgM m hO).N) (hu : Used m (t.val / 11)) :
    ((cfgM m hO).win 2).index t = ![(te m (tile m hO t)).toNat, 0, 11 + t.val % 11] := by
  refine (tr2 m (grid0.coords t)).trans ?_
  rw [blk_used m hO t hu]

theorem win3_idx (t : Fin (cfgM m hO).N) (hu : Used m (t.val / 11)) :
    ((cfgM m hO).win 3).index t = ![(te m (tile m hO t)).toNat, t.val % 11, 0] := by
  refine (tr3 m (grid0.coords t)).trans ?_
  rw [blk_used m hO t hu]

/-- The rows of tile `t / 11` that a grid point reads. -/
theorem hg_at (c : Dev nD) (t : Fin (cfgM m hO).N) (x : S512x2048.Idx) (h : t.val / 11 * 512 + (x 0).val < 69632) :
    iblk m hO c 0 t x = m ((c : Thread nD τ).loc main_arg2) (ix2 ⟨t.val / 11 * 512 + (x 0).val, h⟩ (x 1)) := by
  show V m c main_arg2 _ = _
  rw [V_main_arg2]
  refine congrArg (m ((c : Thread nD τ).loc main_arg2)) (funext fun (a : Fin 2) => Fin.ext ?_)
  refine (Pipeline.Window.rect_emb_val ((cfgM m hO).win 0) t x a).trans ?_
  rw [win0_idx]
  fin_cases a
  · rfl
  · exact Nat.zero_add _

/-- The converted gate and up matrices hold the argument's numbers. -/
theorem V_v0 (c : Dev nD) : V m c main_v0 = m ((c : Thread nD τ).loc main_arg3) := by
  entry_read
  rfl

/-- The converted down matrices hold the argument's numbers. -/
theorem V_v1 (c : Dev nD) : V m c main_v1 = m ((c : Thread nD τ).loc main_arg4) := by
  entry_read
  rfl

/-- The gate columns that a grid point of a used tile reads: the tile's expert's, the point's block. -/
theorem wg_at (c : Dev nD) (t : Fin (cfgM m hO).N) (l : Fin 2048) (k : Fin 512) (e : Fin 8) (b : ℕ) (q : Fin 11264)
    (hi : ((cfgM m hO).win 1).index t = ![e.val, 0, b]) (hq : q.val = b * 512 + k.val) :
    iblk m hO c 1 t (ix3 (n0 := 1) 0 l k) = m ((c : Thread nD τ).loc main_arg3) (ix3 e l q) := by
  show V m c main_v0 _ = _
  rw [V_v0]
  refine congrArg (m ((c : Thread nD τ).loc main_arg3)) (funext fun (a : Fin 3) => Fin.ext ?_)
  refine (Pipeline.Window.rect_emb_val ((cfgM m hO).win 1) t (ix3 (n0 := 1) 0 l k) a).trans ?_
  rw [hi]
  match a with
  | 0 => show e.val * 1 + 0 = e.val; omega
  | 1 => show 0 * 2048 + l.val = l.val; omega
  | 2 => exact hq.symm

/-- The up columns that a grid point of a used tile reads. -/
theorem wu_at (c : Dev nD) (t : Fin (cfgM m hO).N) (l : Fin 2048) (k : Fin 512) (e : Fin 8) (b : ℕ) (q : Fin 11264)
    (hi : ((cfgM m hO).win 2).index t = ![e.val, 0, b]) (hq : q.val = b * 512 + k.val) :
    iblk m hO c 2 t (ix3 (n0 := 1) 0 l k) = m ((c : Thread nD τ).loc main_arg3) (ix3 e l q) := by
  show V m c main_v0 _ = _
  rw [V_v0]
  refine congrArg (m ((c : Thread nD τ).loc main_arg3)) (funext fun (a : Fin 3) => Fin.ext ?_)
  refine (Pipeline.Window.rect_emb_val ((cfgM m hO).win 2) t (ix3 (n0 := 1) 0 l k) a).trans ?_
  rw [hi]
  match a with
  | 0 => show e.val * 1 + 0 = e.val; omega
  | 1 => show 0 * 2048 + l.val = l.val; omega
  | 2 => exact hq.symm

/-- The down rows that a grid point of a used tile reads. -/
theorem wd_at (c : Dev nD) (t : Fin (cfgM m hO).N) (k : Fin 512) (d : Fin 2048) (e : Fin 8) (b : ℕ) (q : Fin 5632)
    (hi : ((cfgM m hO).win 3).index t = ![e.val, b, 0]) (hq : q.val = b * 512 + k.val) :
    iblk m hO c 3 t (ix3 (n0 := 1) 0 k d) = m ((c : Thread nD τ).loc main_arg4) (ix3 e q d) := by
  show V m c main_v1 _ = _
  rw [V_v1]
  refine congrArg (m ((c : Thread nD τ).loc main_arg4)) (funext fun (a : Fin 3) => Fin.ext ?_)
  refine (Pipeline.Window.rect_emb_val ((cfgM m hO).win 3) t (ix3 (n0 := 1) 0 k d) a).trans ?_
  rw [hi]
  match a with
  | 0 => show e.val * 1 + 0 = e.val; omega
  | 1 => exact hq.symm
  | 2 => show 0 * 2048 + d.val = d.val; omega

variable (hH : Hyps m hO)

/-- The input rows of a grid point, as a block. -/
abbrev rows (c : Dev nD) (t : Fin (cfgM m hO).N) : FVec Ideal S512x2048 .f32 := iblk m hO c 0 t

/-- The gate columns of a grid point, as a block. -/
abbrev gcols (c : Dev nD) (t : Fin (cfgM m hO).N) : FVec Ideal S1x2048x512 .bf16 := iblk m hO c 1 t

/-- The up columns of a grid point, as a block. -/
abbrev ucols (c : Dev nD) (t : Fin (cfgM m hO).N) : FVec Ideal S1x2048x512 .bf16 := iblk m hO c 2 t

/-- The down rows of a grid point, as a block. -/
abbrev drows (c : Dev nD) (t : Fin (cfgM m hO).N) : FVec Ideal S1x512x2048 .bf16 := iblk m hO c 3 t

/-- The part that a grid point of a used tile adds to the accumulator. -/
def part (c : Dev nD) (t : Fin (cfgM m hO).N) : FVec Ideal S512x2048 .f32 :=
  k0_pay2 (F := Ideal) (rows m hO c t) (gcols m hO c t) (ucols m hO c t) (drows m hO c t)

/-- Through a row tile the grid points read the same rows. -/
theorem rows_pred (c : Dev nD) (t : Fin (cfgM m hO).N) (h : ¬t.val % 11 = 0) :
    rows m hO c ⟨t.val - 1, Nat.lt_of_le_of_lt (Nat.sub_le _ _) t.isLt⟩ = rows m hO c t := by
  have hN : t.val < 1496 := lt_of_lt_of_eq t.isLt N_0
  funext x
  have hx : (x 0).val < 512 := (x 0).isLt
  have hd : (t.val - 1) / 11 = t.val / 11 := by omega
  refine (hg_at m hO c _ x (by show (t.val - 1) / 11 * 512 + _ < _; omega)).trans (Eq.trans ?_ (hg_at m hO c t x (by omega)).symm)
  refine congrArg (m ((c : Thread nD τ).loc main_arg2)) (congrArg (fun r => ix2 r (x 1)) (Fin.ext ?_))
  show (t.val - 1) / 11 * 512 + (x 0).val = t.val / 11 * 512 + (x 0).val
  rw [hd]

/-- The part of equal blocks is equal. -/
theorem part_congr {v0 w0 : FVec Ideal S512x2048 .bf16} {v1 w1 v4 w4 : FVec Ideal S1x2048x512 .bf16} {v11 w11 : FVec Ideal S1x512x2048 .bf16}
    (h0 : v0 = w0) (h1 : v1 = w1) (h4 : v4 = w4) (h11 : v11 = w11) (j : S512x2048.Idx) :
    k0_pay2 (F := Ideal) v0 v1 v4 v11 j = k0_pay2 (F := Ideal) w0 w1 w4 w11 j := by
  subst h0 h1 h4 h11; rfl

/-- The closing selection of a used tile takes the accumulator. -/
theorem close_used (i : grid0.Coords) (acc : FVec Ideal S512x2048 .f32) (hu : Used m (i 0).val) (j : S512x2048.Idx) :
    k0_pay5 (F := Ideal) i (nu m) acc j = acc j := by
  have h : Scalar.cmpi .slt (BitVec.ofNat 32 (i 0).val) (nu m) = 1#1 := (slt_iff _ (i 0).isLt _).mpr hu
  show (Scalar.select (Scalar.cmpi .slt (BitVec.ofNat 32 (i 0).val) (nu m)) acc _ : FVec Ideal S512x2048 .f32) j = _
  rw [h]
  rfl

/-- The closing selection of an unused tile takes zero. -/
theorem close_unused (i : grid0.Coords) (acc : FVec Ideal S512x2048 .f32) (hu : ¬Used m (i 0).val) (j : S512x2048.Idx) :
    k0_pay5 (F := Ideal) i (nu m) acc j = 0 := by
  have hb : ∀ b : BitVec 1, ¬b = 1#1 → b = 0#1 := by decide
  have h : Scalar.cmpi .slt (BitVec.ofNat 32 (i 0).val) (nu m) = 0#1 := hb _ fun q => hu ((slt_iff _ (i 0).isLt _).mp q)
  unfold k0_pay5
  dsimp only
  rw [h]
  pointwise []

/-- The first payload keeps the rows. -/
theorem keep_at {v w : FVec Ideal S512x2048 .f32} (h : v = w) : k0_pay1 (F := Ideal) v = w := by
  subst h
  funext x
  pointwise [k0_pay1]

/-- The first grid point of a used tile keeps the rows. -/
theorem keep_A (c : Dev nD) (t : Fin (cfgM m hO).N) (hu : Used m (t.val / 11)) (h : t.val % 11 = 0) :
    (outsAt0 m hO hH c t.val t.isLt).2.2 = rows m hO c t := by
  rw [outsAt0_A m hO hH c t ((cond0 m t).mpr ⟨hu, h⟩) ((cond1 m t).mpr hu) h (by omega) (by omega)]
  funext x
  frame_out
  exact congrFun (keep_at ((hs0_0 m hO t).read_unread (iblk m hO c 0 t))) x

/-- The first grid point of a used tile leaves its part in the accumulator. -/
theorem acc_A (c : Dev nD) (t : Fin (cfgM m hO).N) (hu : Used m (t.val / 11)) (h : t.val % 11 = 0) (j : S512x2048.Idx) :
    (outsAt0 m hO hH c t.val t.isLt).2.1 j = part m hO c t j := by
  rw [outsAt0_A m hO hH c t ((cond0 m t).mpr ⟨hu, h⟩) ((cond1 m t).mpr hu) h (by omega) (by omega)]
  frame_out
  rw [first_at]
  exact part_congr (keep_at ((hs0_0 m hO t).read_unread (iblk m hO c 0 t))) ((hs0_1 m hO t).read_unread (iblk m hO c 1 t))
    ((hs0_2 m hO t).read_unread (iblk m hO c 2 t)) ((hs0_3 m hO t).read_unread (iblk m hO c 3 t)) j

/-- A later grid point of a used tile finds the kept rows and leaves them. -/
theorem keep_N (c : Dev nD) (t : Fin (cfgM m hO).N) (hu : Used m (t.val / 11)) (h : ¬t.val % 11 = 0) :
    (outsAt0 m hO hH c t.val t.isLt).2.2 = (outsAt0 m hO hH c (t.val - 1) (Nat.lt_of_le_of_lt (Nat.sub_le _ _) t.isLt)).2.2 := by
  by_cases h4 : t.val % 11 = 10
  · rw [outsAt0_I m hO hH c t (fun q => h ((cond0 m t).mp q).2) ((cond1 m t).mpr hu) h (by omega) h4]
    rfl
  · rw [outsAt0_F m hO hH c t (fun q => h ((cond0 m t).mp q).2) ((cond1 m t).mpr hu) h (by omega) h4]
    rfl

/-- A later grid point of a used tile adds its part to the accumulator, formed with the kept rows. -/
theorem acc_N (c : Dev nD) (t : Fin (cfgM m hO).N) (hu : Used m (t.val / 11)) (h : ¬t.val % 11 = 0)
    (hk : (outsAt0 m hO hH c (t.val - 1) (Nat.lt_of_le_of_lt (Nat.sub_le _ _) t.isLt)).2.2 = rows m hO c t) (j : S512x2048.Idx) :
    (outsAt0 m hO hH c t.val t.isLt).2.1 j
      = (outsAt0 m hO hH c (t.val - 1) (Nat.lt_of_le_of_lt (Nat.sub_le _ _) t.isLt)).2.1 j + part m hO c t j := by
  by_cases h4 : t.val % 11 = 10
  · rw [outsAt0_I m hO hH c t (fun q => h ((cond0 m t).mp q).2) ((cond1 m t).mpr hu) h (by omega) h4]
    frame_out
    refine (next_at _ _ _ _ _ j).trans (Ideal.add_congr ?_ ?_)
    · rw [read_unread_whole]
    · rw [read_unread_whole]
      exact part_congr hk ((hs0_1 m hO t).read_unread (iblk m hO c 1 t))
        ((hs0_2 m hO t).read_unread (iblk m hO c 2 t)) ((hs0_3 m hO t).read_unread (iblk m hO c 3 t)) j
  · rw [outsAt0_F m hO hH c t (fun q => h ((cond0 m t).mp q).2) ((cond1 m t).mpr hu) h (by omega) h4]
    frame_out
    refine (next_at _ _ _ _ _ j).trans (Ideal.add_congr ?_ ?_)
    · rw [read_unread_whole]
    · rw [read_unread_whole]
      exact part_congr hk ((hs0_1 m hO t).read_unread (iblk m hO c 1 t))
        ((hs0_2 m hO t).read_unread (iblk m hO c 2 t)) ((hs0_3 m hO t).read_unread (iblk m hO c 3 t)) j

/-- The last grid point of a used tile copies the accumulator to the result. -/
theorem out_I (c : Dev nD) (t : Fin (cfgM m hO).N) (hu : Used m (t.val / 11)) (h4 : t.val % 11 = 10) (j : S512x2048.Idx) :
    (outsAt0 m hO hH c t.val t.isLt).1 j = (outsAt0 m hO hH c t.val t.isLt).2.1 j := by
  rw [outsAt0_I m hO hH c t (fun q => absurd ((cond0 m t).mp q).2 (by omega)) ((cond1 m t).mpr hu) (by omega) (by omega) h4]
  frame_out
  refine (congrArg (fun w => k0_pay5 (F := Ideal) (grid0.coords t) w _ j) (readNu m)).trans ?_
  exact close_used m _ _ (by rw [(coords t).1]; exact hu) j

/-- The last grid point of an unused tile leaves zero. -/
theorem out_J (c : Dev nD) (t : Fin (cfgM m hO).N) (hu : ¬Used m (t.val / 11)) (h4 : t.val % 11 = 10) (j : S512x2048.Idx) :
    (outsAt0 m hO hH c t.val t.isLt).1 j = 0 := by
  rw [outsAt0_J m hO hH c t (fun q => hu ((cond0 m t).mp q).1) (fun q => hu ((cond1 m t).mp q)) h4]
  frame_out
  refine (congrArg (fun w => k0_pay5 (F := Ideal) (grid0.coords t) w _ j) (readNu m)).trans ?_
  exact close_unused m _ _ (by rw [(coords t).1]; exact hu) j

/-- In a used tile the kept copy of the rows is the rows. -/
theorem kept (c : Dev nD) : ∀ (n : ℕ) (hn : n < (cfgM m hO).N), Used m (n / 11) → (outsAt0 m hO hH c n hn).2.2 = rows m hO c ⟨n, hn⟩ := by
  intro n
  induction n with
  | zero => exact fun hn hu => keep_A m hO hH c ⟨0, hn⟩ hu rfl
  | succ n ih =>
    intro hn hu
    by_cases h : (n + 1) % 11 = 0
    · exact keep_A m hO hH c ⟨n + 1, hn⟩ hu h
    · have hd : (n + 1) / 11 = n / 11 := by omega
      exact (keep_N m hO hH c ⟨n + 1, hn⟩ hu h).trans ((ih (by omega) (hd ▸ hu)).trans (rows_pred m hO c ⟨n + 1, hn⟩ h))

/-- At the last block of a used tile the accumulator holds the eleven parts' sum. -/
theorem acc_at (c : Dev nD) (t : Fin (cfgM m hO).N) (hu : Used m (t.val / 11)) (h : t.val % 11 = 10) (j : S512x2048.Idx) :
    (outsAt0 m hO hH c t.val t.isLt).2.1 j
      = ∑ s : Fin 11, part m hO c ⟨11 * (t.val / 11) + s.val, Pipeline.run_point_lt_of_flush t h s⟩ j := by
  classical
  have key := Pipeline.eq_sum_fin_of_reset_step_apply_of_flush
    (fun n h (i : S512x2048.Idx) => if Used m (n / 11) then (outsAt0 m hO hH c n h).2.1 i else (0 : EReal)) 11 (fun _ => (0 : EReal))
    (fun t i => if Used m (t.val / 11) then part m hO c t i else 0)
    (fun t h0 j => by
      show (if Used m (t.val / 11) then (outsAt0 m hO hH c t.val t.isLt).2.1 j else 0) = 0 + if Used m (t.val / 11) then part m hO c t j else 0
      by_cases hu : Used m (t.val / 11)
      · rw [if_pos hu, if_pos hu, acc_A m hO hH c t hu h0]; exact (zero_add _).symm
      · rw [if_neg hu, if_neg hu]; exact (zero_add _).symm)
    (fun t h0 j => by
      show (if Used m (t.val / 11) then (outsAt0 m hO hH c t.val t.isLt).2.1 j else 0)
        = (if Used m ((t.val - 1) / 11) then (outsAt0 m hO hH c (t.val - 1) _).2.1 j else 0) + if Used m (t.val / 11) then part m hO c t j else 0
      have hd : (t.val - 1) / 11 = t.val / 11 := by omega
      rw [hd]
      by_cases hu : Used m (t.val / 11)
      · rw [if_pos hu, if_pos hu, if_pos hu]
        exact acc_N m hO hH c t hu h0 ((kept m hO hH c _ _ (hd ▸ hu)).trans (rows_pred m hO c t h0)) j
      · rw [if_neg hu, if_neg hu, if_neg hu]; exact (zero_add _).symm)
    t h j
  have e := key.trans (zero_add _)
  rw [if_pos hu] at e
  refine e.trans (Finset.sum_congr rfl fun s _ => ?_)
  have hd : (11 * (t.val / 11) + s.val) / 11 = t.val / 11 := by have := s.isLt; omega
  exact if_pos (hd.symm ▸ hu)

/-- Where a row and column of the result's block lie in the result. -/
theorem emb4 (t : Fin (cfgM m hO).N) (y : S512x2048.Idx) (hr : t.val / 11 * 512 + (y 0).val < 69632) :
    (((cfgM m hO).win 4).blk t).view.emb y = ix2 (n0 := 69632) (n1 := 2048) ⟨t.val / 11 * 512 + (y 0).val, hr⟩ (y 1) := by
  refine funext fun (a : Fin 2) => Fin.ext ?_
  refine (Pipeline.Window.rect_emb_val ((cfgM m hO).win 4) t y a).trans ?_
  rw [win4_idx]
  match a with
  | 0 => rfl
  | 1 => exact Nat.zero_add _

/-- Every entry of the result lies in the block of its row tile's last grid point. -/
theorem cover4 (i : S69632x2048.Idx) :
    ∃ t : Fin (cfgM m hO).N, ((cfgM m hO).win 4).flush t = true ∧ i ∈ (((cfgM m hO).win 4).blk t).view.set := by
  have h0 : (i 0).val < 69632 := (i 0).isLt
  have ht : (i 0).val / 512 * 11 + 10 < (cfgM m hO).N := lt_of_lt_of_eq (by omega) N_0.symm
  refine ⟨⟨(i 0).val / 512 * 11 + 10, ht⟩, (flush0_4 _ _).mpr (by show ((i 0).val / 512 * 11 + 10) % 11 = 10; omega), ?_⟩
  have hd : ((i 0).val / 512 * 11 + 10) / 11 * 512 + (i 0).val % 512 = (i 0).val := by omega
  have hemb := emb4 m hO ⟨(i 0).val / 512 * 11 + 10, ht⟩ (ix2 (n0 := 512) (n1 := 2048) ⟨(i 0).val % 512, by omega⟩ (i 1))
    (lt_of_eq_of_lt hd h0)
  have hi : ix2 (n0 := 69632) (n1 := 2048) ⟨((i 0).val / 512 * 11 + 10) / 11 * 512 + (i 0).val % 512, lt_of_eq_of_lt hd h0⟩ (i 1) = i := by
    refine funext fun (a : Fin 2) => Fin.ext ?_
    match a with
    | 0 => exact hd
    | 1 => rfl
  exact Eq.subst (motive := fun z => z ∈ (((cfgM m hO).win 4).blk ⟨(i 0).val / 512 * 11 + 10, ht⟩).view.set) (hemb.trans hi)
    (View.emb_mem_set (((cfgM m hO).win 4).blk ⟨(i 0).val / 512 * 11 + 10, ht⟩).view
      (ix2 (n0 := 512) (n1 := 2048) ⟨(i 0).val % 512, by omega⟩ (i 1)))

/-- One hidden unit's share of an expert's SwiGLU of a row, at an output column. -/
def unit (a2 : FVec Ideal S69632x2048 .f32) (a3 : FVec Ideal S8x2048x11264 .f32) (a4 : FVec Ideal S8x5632x2048 .f32)
    (e : Fin 8) (r : Fin 69632) (d : Fin 2048) (x : Fin 5632) : EReal :=
  act (∑ l : Fin 2048, a2 (ix2 r l) * a3 (ix3 e l ⟨x.val, by omega⟩))
    (∑ l : Fin 2048, a2 (ix2 r l) * a3 (ix3 e l ⟨5632 + x.val, by omega⟩)) * a4 (ix3 e x d)

/-- A grid point of a used tile adds the shares of its block's hidden units. -/
theorem part_val (t : Fin (cfgM m hO).N) (hu : Used m (t.val / 11)) (e : Fin 8) (he : (te m (tile m hO t)).toNat = e.val)
    (y : S512x2048.Idx) (r : Fin 69632) (hr : r.val = t.val / 11 * 512 + (y 0).val) (k : Fin 512) (x : Fin 5632)
    (hx : x.val = t.val % 11 * 512 + k.val) :
    act (∑ l : Fin 2048, rows m hO 0 t (ix2 (y 0) l) * gcols m hO 0 t (ix3 (n0 := 1) 0 l k))
      (∑ l : Fin 2048, rows m hO 0 t (ix2 (y 0) l) * ucols m hO 0 t (ix3 (n0 := 1) 0 l k)) * drows m hO 0 t (ix3 (n0 := 1) 0 k (y 1))
    = unit (m (((0 : Dev nD) : Thread nD τ).loc main_arg2)) (m (((0 : Dev nD) : Thread nD τ).loc main_arg3))
        (m (((0 : Dev nD) : Thread nD τ).loc main_arg4)) e r (y 1) x := by
  have i1 := win1_idx m hO t hu
  have i2 := win2_idx m hO t hu
  have i3 := win3_idx m hO t hu
  rw [he] at i1 i2 i3
  have hrow : ∀ l : Fin 2048, rows m hO 0 t (ix2 (y 0) l) = m (((0 : Dev nD) : Thread nD τ).loc main_arg2) (ix2 r l) := fun l => by
    have hlt : t.val / 11 * 512 + (y 0).val < 69632 := hr ▸ r.isLt
    refine (hg_at m hO 0 t (ix2 (y 0) l) hlt).trans ?_
    exact congrArg (m (((0 : Dev nD) : Thread nD τ).loc main_arg2)) (congrArg (fun r => ix2 r l) (Fin.ext hr.symm))
  unfold unit
  refine Ideal.mul_congr (congrArg₂ act (Fin.sum_fin_congr fun l => Ideal.mul_congr (hrow l) ?_)
    (Fin.sum_fin_congr fun l => Ideal.mul_congr (hrow l) ?_)) ?_
  · exact wg_at m hO 0 t l k e _ _ i1 hx
  · refine wu_at m hO 0 t l k e _ _ i2 ?_
    show 5632 + x.val = (11 + t.val % 11) * 512 + k.val
    omega
  · exact wd_at m hO 0 t k (y 1) e _ _ i3 hx

/-- The eleven parts of a used tile's row are its expert's SwiGLU of the row. -/
theorem parts_sum (t : Fin (cfgM m hO).N) (hu : Used m (t.val / 11)) (h : t.val % 11 = 10) (e : Fin 8)
    (he : (te m (tile m hO t)).toNat = e.val) (y : S512x2048.Idx) (r : Fin 69632) (hr : r.val = t.val / 11 * 512 + (y 0).val) :
    ∑ s : Fin 11, part m hO 0 ⟨11 * (t.val / 11) + s.val, Pipeline.run_point_lt_of_flush t h s⟩ y
    = ∑ x : Fin 5632, unit (m (((0 : Dev nD) : Thread nD τ).loc main_arg2)) (m (((0 : Dev nD) : Thread nD τ).loc main_arg3))
        (m (((0 : Dev nD) : Thread nD τ).loc main_arg4)) e r (y 1) x := by
  refine (Finset.sum_congr rfl fun s _ => part_at (rows m hO 0 _) (gcols m hO 0 _) (ucols m hO 0 _) (drows m hO 0 _) y).trans ?_
  refine Fin.sum_mul_add_congr (L := 5632) (S := 11) (n := 512) (f := unit (m (((0 : Dev nD) : Thread nD τ).loc main_arg2)) (m (((0 : Dev nD) : Thread nD τ).loc main_arg3))
        (m (((0 : Dev nD) : Thread nD τ).loc main_arg4)) e r (y 1)) (fun s k hl => ?_) rfl
  have hs := s.isLt
  have hp : 11 * (t.val / 11) + s.val < (cfgM m hO).N := Pipeline.run_point_lt_of_flush t h s
  have hd' : (11 * (t.val / 11) + s.val) / 11 = t.val / 11 := by omega
  have hm' : (11 * (t.val / 11) + s.val) % 11 = s.val := by omega
  have ht' : tile m hO ⟨11 * (t.val / 11) + s.val, hp⟩ = tile m hO t :=
    Fin.ext ((tile_val m hO _).trans (hd'.trans (tile_val m hO t).symm))
  refine part_val m hO ⟨11 * (t.val / 11) + s.val, hp⟩ (by show Used m ((11 * (t.val / 11) + s.val) / 11); rw [hd']; exact hu) e
    (by rw [ht']; exact he) y r (by show r.val = (11 * (t.val / 11) + s.val) / 11 * 512 + _; rw [hd']; exact hr) k _ ?_
  show s.val * 512 + k.val = (11 * (t.val / 11) + s.val) % 11 * 512 + k.val
  rw [hm']

/-- What the last grid point of a row tile leaves for the result is the reference's rows. -/
theorem out_val (hG : Good m) (t : Fin (cfgM m hO).N) (h : t.val % 11 = 10) (y : S512x2048.Idx) (r : Fin 69632)
    (hr : r.val = t.val / 11 * 512 + (y 0).val) : (outsAt0 m hO hH 0 t.val t.isLt).1 y
    = Cert.MoeRefIdeal.Value.REF (m (((0 : Dev nD) : Thread nD τ).loc main_arg0)) (m (((0 : Dev nD) : Thread nD τ).loc main_arg1))
        (m (((0 : Dev nD) : Thread nD τ).loc main_arg2)) (m (((0 : Dev nD) : Thread nD τ).loc main_arg3)) (m (((0 : Dev nD) : Thread nD τ).loc main_arg4))
        (ix2 r (y 1)) := by
  have hy : (y 0).val < 512 := (y 0).isLt
  have hd : r.val / 512 = t.val / 11 := by omega
  by_cases hu : Used m (t.val / 11)
  · have htile : tile m hO t = ⟨r.val / 512, by omega⟩ := Fin.ext ((tile_val m hO t).trans hd.symm)
    have he : (te m ⟨r.val / 512, by omega⟩).toNat < 8 := hG.1 _
    rw [out_I m hO hH 0 t hu h, acc_at m hO hH 0 t hu h,
      parts_sum m hO t hu h ⟨(te m ⟨r.val / 512, by omega⟩).toNat, he⟩ (by rw [htile]) y r hr]
    exact (Cert.MoeRefIdeal.Value.ref_used _ _ _ _ _ r (y 1) (by rw [hd]; exact hu) he).symm
  · rw [out_J m hO hH 0 t hu h y]
    exact (Cert.MoeRefIdeal.Value.ref_unused _ _ _ _ _ r (y 1) (by rw [hd]; exact hu)).symm

/-- The result array after the run is the reference's result of the call's arguments. -/
theorem final (hG : Good m) (c : Dev nD) : (dats m hO hH 0 c).arrAt 4 (cfgM m hO).N
    = Cert.MoeRefIdeal.Value.REF (m ((c : Thread nD τ).loc main_arg0)) (m ((c : Thread nD τ).loc main_arg1))
        (m ((c : Thread nD τ).loc main_arg2)) (m ((c : Thread nD τ).loc main_arg3)) (m ((c : Thread nD τ).loc main_arg4)) := by
  obtain rfl : c = 0 := Subsingleton.elim _ _
  refine (dats m hO hH 0 0).arrAt_eq_of_emb 4 _ (fun t hf (y : S512x2048.Idx) => ?_) (cover4 m hO)
  have h := (flush0_4 _ t).mp hf
  have hN : t.val < 1496 := lt_of_lt_of_eq t.isLt N_0
  have hy : (y 0).val < 512 := (y 0).isLt
  have hr : t.val / 11 * 512 + (y 0).val < 69632 := by omega
  refine Eq.trans (congrFun (after0_4 m hO hH 0 t) y) ((out_val m hO hH hG t h y ⟨_, hr⟩ rfl).trans ?_)
  exact congrArg (Cert.MoeRefIdeal.Value.REF _ _ _ _ _) (emb4 m hO t y hr).symm

end Cert.MoeIdeal.Value

end
-- ==== Proof.Moe.Claims.lean ====
/-
  The claims about the grouped feed-forward call, from its tables' side conditions, its run and its value.
-/
module

public import Idealize.ShloMosaic.Lib.Claim
public import proofs.«01_k».proof.Defs
public import proofs.«01_k».proof.Proof.Gen.Moe
public import proofs.«01_k».proof.Proof.Gen.MoeRefIdeal.Run
public import proofs.«01_k».proof.Proof.Moe.Value
public import proofs.«01_k».proof.Proof.Moe.TablesWords

@[expose] public section

set_option maxRecDepth 16384

noncomputable section

open Idealize.ShloMosaic Idealize.ShloMosaic.TcCoe Idealize.SL.Sem

namespace Cert.MoeIdeal.Value

open Cert.MoeIdeal Cert.MoeIdeal.Gen

/-- The call over the reals ends without fault, its arguments unchanged and its counters at zero. -/
theorem frame_ideal : @Cert.quiescent_MoeIdeal Cert.MoeIdeal.Gen.facts Cert.Pre_experts_exist.Gen.facts := by
  intro m g hpre
  have hG : Good m := good_of_pre m _ _ _ _ _ rfl rfl (hpre 0)
  exact Cert.MoeIdeal.Gen.frame m g (ok_of_good m hG) (hyps_of_good m hG _)

/-- The reference ends without fault, its arguments unchanged and its counters at zero. -/
theorem frame_ref : @Cert.quiescent_MoeRefIdeal Cert.MoeRefIdeal.Gen.facts Cert.Pre_experts_exist.Gen.facts := by
  intro m g hpre
  exact (θ_run Cert.MoeRefIdeal.defs _ _).mono (fun r h => ⟨fun c => (h c).2, sem_eq_zero_of_no_sems (by decide) r.2⟩)
    (Cert.MoeRefIdeal.Value.result m g)

/-- The call and the reference compute the same function over the reals. -/
theorem value : @Cert.algebraic_MoeIdeal_MoeRefIdeal Cert.MoeIdeal.Gen.facts Cert.MoeRefIdeal.Gen.facts Cert.Pre_experts_exist.Gen.facts := by
  intro m g m' g' hpre hagree
  have hG : Good m := good_of_pre m _ _ _ _ _ rfl rfl (hpre 0)
  have hO := ok_of_good m hG
  have hH := hyps_of_good m hG hO
  refine ⟨fun c => (dats m hO hH 0 c).arrAt 4 (cfgM m hO).N, ?_, ?_⟩
  · exact (θ_run Cert.MoeIdeal.defs _ _).mono (fun r h c => ⟨(h.1 c).1 4, h.2 c⟩)
      (θ_run_and (Cert.MoeIdeal.Gen.run_main m g hO hH) (Cert.MoeIdeal.Gen.unchanged m g hO hH))
  · refine (θ_run Cert.MoeRefIdeal.defs _ _).mono (fun r h c => ⟨(h c).1.trans ?_, (h c).2⟩) (Cert.MoeRefIdeal.Value.result m' g')
    obtain ⟨h0, h1, h2, h3, h4⟩ := hagree c
    rw [h0, h1, h2, h3, h4]
    exact (final m hO hH hG c).symm

/-- The call with its own words ends without fault, its arguments unchanged and its counters at zero. -/
theorem frame_words : @Cert.quiescent_Moe Cert.Moe.Gen.facts Cert.Pre_experts_exist.Gen.facts := by
  intro m g hpre
  have hG : Cert.Moe.Value.Good m := Cert.Moe.Value.good_of_pre m _ _ _ _ _ rfl rfl (hpre 0)
  exact Cert.Moe.Gen.frame m g (Cert.Moe.Value.ok_of_good m hG) (Cert.Moe.Value.hyps_of_good m hG _)

end Cert.MoeIdeal.Value

end
-- ==== Proof.Dense.Value.lean ====
/-
  The dense feed-forward call: the accumulator carried over the eleven blocks of the hidden axis, closed at the last
  block as residual plus gate times accumulator, is the reference's SwiGLU with the whole hidden axis contracted at once.
-/
module

public import proofs.«01_k».proof.Proof.Gen.DenseIdeal.Frame
public import proofs.«01_k».proof.Proof.Gen.DenseRefIdeal.Run
public import proofs.«01_k».proof.Proof.Ffn.Act
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.DenseRefIdeal.Value

open Cert.Ffn

open Cert.DenseRefIdeal Cert.DenseRefIdeal.Gen

/-- The reference's result as a function of its five arguments. -/
def REF (a0 : FVec Ideal S32768x2048 .bf16) (a1 : FVec Ideal S2048x11264 .f32) (a2 : FVec Ideal S5632x2048 .f32)
    (a3 : FVec Ideal S32768x2048 .f32) (a4 : FVec Ideal S48x1x2048 .f32) : FVec Ideal S32768x2048 .f32 :=
  shapeCast _ (addf (shapeCast _ a3 shapeCasts_S32768x2048_S8x4096x2048) (mulf (broadcastInDim S8x4096x2048 ![0, 1, 2] bcast_S8x1x2048_S8x4096x2048_0_1_2 (extractStridedSlice S8x1x2048 ![0, 0, 10240] (shapeCast _ a4 shapeCasts_S48x1x2048_S8x1x12288) slices_S8x1x12288_S8x1x2048_0_0_10240)) (shapeCast _ (Host.dotGeneral dot_S32768x5632_S5632x2048_S32768x2048_1_0_0_1_n_n none (mulf (mulf (extractStridedSlice S32768x5632 ![0, 0] (Host.dotGeneral dot_S32768x2048_S2048x11264_S32768x11264_1_0_0_1_n_n none (extf .f32 a0 bitsLt_bf16_f32) a1) slices_S32768x11264_S32768x5632_0_0) (Host.divf (broadcastInDim S32768x5632 ![] bcast_S_S32768x5632 (constant S_ .f32 0x3F800000#32)) (addf (broadcastInDim S32768x5632 ![] bcast_S_S32768x5632 (constant S_ .f32 0x3F800000#32)) (Host.exp (Host.negf (extractStridedSlice S32768x5632 ![0, 0] (Host.dotGeneral dot_S32768x2048_S2048x11264_S32768x11264_1_0_0_1_n_n none (extf .f32 a0 bitsLt_bf16_f32) a1) slices_S32768x11264_S32768x5632_0_0)))))) (extractStridedSlice S32768x5632 ![0, 5632] (Host.dotGeneral dot_S32768x2048_S2048x11264_S32768x11264_1_0_0_1_n_n none (extf .f32 a0 bitsLt_bf16_f32) a1) slices_S32768x11264_S32768x5632_0_5632)) a2) shapeCasts_S32768x2048_S8x4096x2048))) shapeCasts_S8x4096x2048_S32768x2048

/-- The reference's result read at one row and column. -/
theorem ref_at (a0 : FVec Ideal S32768x2048 .bf16) (a1 : FVec Ideal S2048x11264 .f32) (a2 : FVec Ideal S5632x2048 .f32)
    (a3 : FVec Ideal S32768x2048 .f32) (a4 : FVec Ideal S48x1x2048 .f32) (r : Fin 32768) (d : Fin 2048) :
    REF a0 a1 a2 a3 a4 (ix2 r d) = a3 (ix2 r d) + a4 (ix3 ⟨r.val / 4096 * 6 + 5, by omega⟩ 0 d) *
      ∑ x : Fin 5632, act (∑ l : Fin 2048, a0 (ix2 r l) * a1 (ix2 l ⟨x.val, by omega⟩))
        (∑ l : Fin 2048, a0 (ix2 r l) * a1 (ix2 l ⟨5632 + x.val, by omega⟩)) * a2 (ix2 x d) := by
  pointwise [REF]
  have h : (⟨r.val / 4096 * 6 + (10240 + d.val) / 2048, by omega⟩ : Fin 48) = ⟨r.val / 4096 * 6 + 5, by omega⟩ :=
    Fin.ext (by dsimp only; omega)
  rw [h]
  rfl

/-- The same at an index of the result. -/
theorem ref_at' (a0 : FVec Ideal S32768x2048 .bf16) (a1 : FVec Ideal S2048x11264 .f32) (a2 : FVec Ideal S5632x2048 .f32)
    (a3 : FVec Ideal S32768x2048 .f32) (a4 : FVec Ideal S48x1x2048 .f32) (j : S32768x2048.Idx) :
    REF a0 a1 a2 a3 a4 j = a3 (ix2 (j 0) (j 1))
      + a4 (ix3 ⟨(j 0).val / 4096 * 6 + 5, by have : (j 0).val < 32768 := (j 0).isLt; omega⟩ 0 (j 1)) *
      ∑ x : Fin 5632, act (∑ l : Fin 2048, a0 (ix2 (j 0) l) * a1 (ix2 l ⟨x.val, by omega⟩))
        (∑ l : Fin 2048, a0 (ix2 (j 0) l) * a1 (ix2 l ⟨5632 + x.val, by omega⟩)) * a2 (ix2 x (j 1)) := by
  conv_lhs => rw [eq_ix2 j]
  exact ref_at a0 a1 a2 a3 a4 (j 0) (j 1)

end Cert.DenseRefIdeal.Value

namespace Cert.DenseIdeal.Value

open Cert.DenseIdeal Cert.DenseIdeal.Gen Cert.Ffn

/-- One block's part of the down projection at a row and column: the block's hidden units, activated, against its rows
    of the down matrix. -/
theorem part_at (v0 : FVec Ideal S512x2048 .bf16) (v1 v4 : FVec Ideal S2048x512 .bf16) (v11 : FVec Ideal S512x2048 .bf16)
    (j : S512x2048.Idx) :
    k0_pay1 (F := Ideal) v0 v1 v4 v11 j
      = ∑ x : Fin 512, act (∑ l : Fin 2048, v0 (ix2 (j 0) l) * v1 (ix2 l x)) (∑ l : Fin 2048, v0 (ix2 (j 0) l) * v4 (ix2 l x))
          * v11 (ix2 x (j 1)) := by
  pointwise [k0_pay1]
  rfl

theorem first_at (v0 : FVec Ideal S512x2048 .bf16) (v1 v4 : FVec Ideal S2048x512 .bf16) (v11 : FVec Ideal S512x2048 .bf16)
    (j : S512x2048.Idx) : k0_pay2 (F := Ideal) v0 v1 v4 v11 j = k0_pay1 (F := Ideal) v0 v1 v4 v11 j := by
  pointwise [k0_pay2]

theorem next_at (v0 : FVec Ideal S512x2048 .bf16) (v1 v4 : FVec Ideal S2048x512 .bf16) (v11 : FVec Ideal S512x2048 .bf16)
    (acc : FVec Ideal S512x2048 .f32) (j : S512x2048.Idx) :
    k0_pay3 (F := Ideal) v0 v1 v4 v11 acc j = acc j + k0_pay1 (F := Ideal) v0 v1 v4 v11 j := by
  pointwise [k0_pay3]

theorem close_at (x : FVec Ideal S512x2048 .f32) (g : FVec Ideal S1x1x2048 .f32) (acc : FVec Ideal S512x2048 .f32)
    (j : S512x2048.Idx) : k0_pay4 (F := Ideal) x g acc j = x j + g (ix3 0 0 (j 1)) * acc j := by
  pointwise [k0_pay4]

/-- Where every window's block lies at a grid point: the row tile is `t / 11`, the block of the hidden axis `t % 11`. -/
theorem idx : ∀ t : Fin cfg0.N, win0_0.index t = ![t.val / 11, 0] ∧ win0_1.index t = ![0, t.val % 11]
    ∧ win0_2.index t = ![0, 11 + t.val % 11] ∧ win0_3.index t = ![t.val % 11, 0] ∧ win0_4.index t = ![t.val / 11, 0]
    ∧ win0_5.index t = ![t.val / 88 * 6 + 5, 0, 0] ∧ win0_6.index t = ![t.val / 11, 0] :=
  (by decide +kernel : ∀ t : Fin grid0.N, _)

variable (m : (ℓ : Loc nD τ sig) → Buf (Elt Ideal) ℓ)

/-- The part that grid point `t` adds to the accumulator. -/
def part (c : Dev nD) (t : Fin cfg0.N) : FVec Ideal S512x2048 .f32 :=
  k0_pay1 (F := Ideal) (iblk m c 0 t) (iblk m c 1 t) (iblk m c 2 t) (iblk m c 3 t)

/-- At the last block of a row tile the accumulator holds the eleven parts' sum. -/
theorem acc_at (c : Dev nD) (t : Fin cfg0.N) (h : t.val % 11 = 10) (j : S512x2048.Idx) :
    (outsAt0 m c t.val t.isLt).2 j
      = ∑ s : Fin 11, part m c ⟨11 * (t.val / 11) + s.val, Pipeline.run_point_lt_of_flush t h s⟩ j := by
  have key := Pipeline.eq_sum_fin_of_reset_step_apply_of_flush (fun n h => (outsAt0 m c n h).2) 11 (fun _ => (0 : EReal))
    (part m c)
    (fun t h0 j => by
      show (outsAt0 m c t.val t.isLt).2 j = _
      rw [outsAt0_A m c t h0 (by omega) (by omega)]; frame_out
      exact (first_at _ _ _ _ j).trans (zero_add _).symm)
    (fun t h0 j => by
      show (outsAt0 m c t.val t.isLt).2 j = (outsAt0 m c (t.val - 1) _).2 j + _
      by_cases h2 : t.val % 11 = 10
      · rw [outsAt0_C m c t h0 (by omega) h2]; frame_out
        rw [read_unread_whole]
        exact next_at _ _ _ _ _ j
      · rw [outsAt0_B m c t h0 (by omega) h2]; frame_out
        rw [read_unread_whole]
        exact next_at _ _ _ _ _ j)
    t h j
  exact key.trans (zero_add _)

/-- The residual's rows that grid point `t` reads. -/
abbrev resid (c : Dev nD) (t : Fin cfg0.N) : FVec Ideal S512x2048 .f32 := iblk m c 4 t

/-- The gate vector that grid point `t` reads. -/
abbrev gate (c : Dev nD) (t : Fin cfg0.N) : FVec Ideal S1x1x2048 .f32 := iblk m c 5 t

/-- What the last block of a row tile leaves for the result: residual plus gate times accumulator. -/
theorem out_at (c : Dev nD) (t : Fin cfg0.N) (h : t.val % 11 = 10) (j : S512x2048.Idx) :
    (outsAt0 m c t.val t.isLt).1 j
      = resid m c t j
        + gate m c t (ix3 0 0 (j 1)) * (outsAt0 m c t.val t.isLt).2 j := by
  rw [outsAt0_C m c t (by omega) (by omega) h]; frame_out
  exact close_at _ _ _ j

/-- The result array after the run is the reference's result of the call's arguments. -/
theorem final (c : Dev nD) : (dats m 0 c).arrAt 6 (cfgs 0).N
    = Cert.DenseRefIdeal.Value.REF (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 6 _ (by decide +kernel) fun t hf y => ?_
  have h := (flush0_6 t).mp hf
  blk_simp
  rw [after0_6, out_at m c t h, acc_at m c t h]
  refine Eq.trans ?_ (Cert.DenseRefIdeal.Value.ref_at' _ _ _ _ _ _).symm
  refine Ideal.add_congr ?_ (Ideal.mul_congr ?_ ?_)
  · blk_ext [resid, iblk, V, idx t]
  · blk_ext [gate, iblk, V, idx t]
  · unfold part
    simp only [part_at]
    refine Fin.sum_mul_add_congr fun s k hl => ?_
    have hi := idx ⟨_, Pipeline.run_point_lt_of_flush t h s⟩
    refine Ideal.mul_congr (congrArg₂ act (Fin.sum_fin_congr fun l => Ideal.mul_congr ?_ ?_)
      (Fin.sum_fin_congr fun l => Ideal.mul_congr ?_ ?_)) ?_
    · blk_ext [iblk, V, idx t, hi]
    · blk_ext [iblk, V, idx t, hi]
    · blk_ext [iblk, V, idx t, hi]
    · blk_ext [iblk, V, idx t, hi]
    · blk_ext [iblk, V, idx t, hi]

end Cert.DenseIdeal.Value

end
-- ==== Proof.Dense.Claims.lean ====
/-
  The claims about the dense feed-forward call, from its run and its value.
-/
module

public import Idealize.ShloMosaic.Lib.Claim
public import proofs.«01_k».proof.Defs
public import proofs.«01_k».proof.Proof.Gen.Dense.Frame
public import proofs.«01_k».proof.Proof.Gen.DenseRefIdeal.Run
public import proofs.«01_k».proof.Proof.Dense.Value

@[expose] public section

set_option maxRecDepth 16384

noncomputable section

open Idealize.ShloMosaic Idealize.ShloMosaic.TcCoe Idealize.SL.Sem

namespace Cert.DenseIdeal.Value

open Cert.DenseIdeal Cert.DenseIdeal.Gen

/-- The call with its own words ends without fault, its arguments unchanged and its counters at zero. -/
theorem frame_words : @Cert.quiescent_Dense Cert.Dense.Gen.facts := fun m g _ => Cert.Dense.Gen.frame m g

/-- The call over the reals ends without fault, its arguments unchanged and its counters at zero. -/
theorem frame_ideal : @Cert.quiescent_DenseIdeal Cert.DenseIdeal.Gen.facts := fun m g _ => Cert.DenseIdeal.Gen.frame m g

/-- The reference ends without fault, its arguments unchanged and its counters at zero. -/
theorem frame_ref : @Cert.quiescent_DenseRefIdeal Cert.DenseRefIdeal.Gen.facts := fun m g _ =>
  (θ_run Cert.DenseRefIdeal.defs _ _).mono (fun r h => ⟨fun c => (h c).2, sem_eq_zero_of_no_sems (by decide) r.2⟩)
    (Cert.DenseRefIdeal.Value.run m g)

/-- The call and the reference compute the same function over the reals. -/
theorem value : @Cert.algebraic_DenseIdeal_DenseRefIdeal Cert.DenseIdeal.Gen.facts Cert.DenseRefIdeal.Gen.facts := by
  intro m g m' g' _ hagree
  refine ⟨fun c => (dats m 0 c).arrAt 6 (cfgs 0).N, ?_, ?_⟩
  · exact (θ_run Cert.DenseIdeal.defs _ _).mono (fun r h c => ⟨(h.1 c).1 6, h.2.1 c⟩)
      (θ_run_and (Cert.DenseIdeal.Gen.run_main m g) (Cert.DenseIdeal.Gen.frame m g))
  · refine (θ_run Cert.DenseRefIdeal.defs _ _).mono (fun r h c => ⟨(h c).1.trans ?_, (h c).2⟩) (Cert.DenseRefIdeal.Value.run m' g')
    obtain ⟨h0, h1, h2, h3, h4⟩ := hagree c
    refine Eq.trans ?_ (final m c).symm
    rw [← h0, ← h1, ← h2, ← h3, ← h4]
    rfl

end Cert.DenseIdeal.Value

end
-- ==== Proof.Proj.HgrnProj.lean ====
/-
  The projection into a mixer of width 8192: every block of the call's result is the reference's product there, all 2048
  input channels being contracted at once.
-/
module

public import proofs.«01_k».proof.Proof.Gen.HgrnProjIdeal.Frame
public import proofs.«01_k».proof.Proof.Gen.HgrnProjRefIdeal.Run
public import proofs.«01_k».proof.Proof.Gen.HgrnProj.Frame
public import proofs.«01_k».proof.Defs
public import Idealize.ShloMosaic.Lib.Claim
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.HgrnProjRefIdeal.Value

open Cert.HgrnProjRefIdeal Cert.HgrnProjRefIdeal.Gen

/-- The product of the rows with the weights, as the reference forms it. -/
def REF (a0 : FVec Ideal S32768x2048 .bf16) (a1 : FVec Ideal S2048x8192 .f32) : FVec Ideal S32768x8192 .f32 :=
  Host.dotGeneral dot_S32768x2048_S2048x8192_S32768x8192_1_0_0_1_n_n none (extf .f32 a0 bitsLt_bf16_f32) a1

/-- The reference's result at an index: a sum over the input channels. -/
theorem ref_at (a0 : FVec Ideal S32768x2048 .bf16) (a1 : FVec Ideal S2048x8192 .f32) (j : S32768x8192.Idx) :
    REF a0 a1 j = ∑ l : Fin 2048, a0 (ix2 (j 0) l) * a1 (ix2 l (j 1)) := by
  pointwise [REF]

end Cert.HgrnProjRefIdeal.Value

namespace Cert.HgrnProjIdeal.Value

open Cert.HgrnProjIdeal Cert.HgrnProjIdeal.Gen
open Cert.HgrnProjRefIdeal.Value (REF ref_at)

/-- One block of the call's result at an index. -/
theorem pay_at (v0 : FVec Ideal S1024x2048 .bf16) (v1 : FVec Ideal S2048x512 .bf16) (j : S1024x512.Idx) :
    k0_pay1 (F := Ideal) v0 v1 j = ∑ l : Fin 2048, v0 (ix2 (j 0) l) * v1 (ix2 l (j 1)) := by
  pointwise [k0_pay1]

/-- Where every window's block lies at a grid point. -/
theorem idx : ∀ t : Fin cfg0.N, win0_0.index t = ![t.val / 16, 0] ∧ win0_1.index t = ![0, t.val % 16]
    ∧ win0_2.index t = ![t.val / 16, t.val % 16] :=
  (by decide +kernel : ∀ t : Fin grid0.N, _)

variable (m : (ℓ : Loc nD τ sig) → Buf (Elt Ideal) ℓ)

/-- The result array after the run is the reference's product of the call's arguments. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2]
  unfold out0_2
  frame_out
  refine (pay_at _ _ _).trans (Eq.trans ?_ (ref_at _ _ _).symm)
  refine Fin.sum_fin_congr fun l => Ideal.mul_congr ?_ ?_
  · blk_ext [iblk, V, idx t]
  · blk_ext [iblk, V, idx t]

/-- The call with its own words ends without fault, its arguments unchanged and its counters at zero. -/
theorem frame_words : @Cert.quiescent_HgrnProj Cert.HgrnProj.Gen.facts := fun m g _ => Cert.HgrnProj.Gen.frame m g

/-- The call over the reals ends without fault, its arguments unchanged and its counters at zero. -/
theorem frame_ideal : @Cert.quiescent_HgrnProjIdeal Cert.HgrnProjIdeal.Gen.facts := fun m g _ => Cert.HgrnProjIdeal.Gen.frame m g

/-- The reference ends without fault, its arguments unchanged and its counters at zero. -/
theorem frame_ref : @Cert.quiescent_HgrnProjRefIdeal Cert.HgrnProjRefIdeal.Gen.facts := fun m g _ =>
  (θ_run Cert.HgrnProjRefIdeal.defs _ _).mono (fun r h => ⟨fun c => (h c).2, sem_eq_zero_of_no_sems (by decide) r.2⟩)
    (Cert.HgrnProjRefIdeal.Value.run m g)

/-- The call and the reference compute the same function over the reals. -/
theorem value : @Cert.algebraic_HgrnProjIdeal_HgrnProjRefIdeal Cert.HgrnProjIdeal.Gen.facts Cert.HgrnProjRefIdeal.Gen.facts := by
  intro m g m' g' _ hagree
  refine ⟨fun c => (dats m 0 c).arrAt 2 (cfgs 0).N, ?_, ?_⟩
  · exact (θ_run Cert.HgrnProjIdeal.defs _ _).mono (fun r h c => ⟨(h.1 c).1 2, h.2.1 c⟩)
      (θ_run_and (Cert.HgrnProjIdeal.Gen.run_main m g) (Cert.HgrnProjIdeal.Gen.frame m g))
  · refine (θ_run Cert.HgrnProjRefIdeal.defs _ _).mono (fun r h c => ⟨(h c).1.trans ?_, (h c).2⟩) (Cert.HgrnProjRefIdeal.Value.run m' g')
    obtain ⟨h0, h1⟩ := hagree c
    refine Eq.trans ?_ (final m c).symm
    rw [← h0, ← h1]
    rfl

end Cert.HgrnProjIdeal.Value

end
-- ==== Proof.Proj.SwaProj.lean ====
/-
  The projection into a mixer of width 2560: every block of the call's result is the reference's product there, all 2048
  input channels being contracted at once.
-/
module

public import proofs.«01_k».proof.Proof.Gen.SwaProjIdeal.Frame
public import proofs.«01_k».proof.Proof.Gen.SwaProjRefIdeal.Run
public import proofs.«01_k».proof.Proof.Gen.SwaProj.Frame
public import proofs.«01_k».proof.Defs
public import Idealize.ShloMosaic.Lib.Claim
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.SwaProjRefIdeal.Value

open Cert.SwaProjRefIdeal Cert.SwaProjRefIdeal.Gen

/-- The product of the rows with the weights, as the reference forms it. -/
def REF (a0 : FVec Ideal S32768x2048 .bf16) (a1 : FVec Ideal S2048x2560 .f32) : FVec Ideal S32768x2560 .f32 :=
  Host.dotGeneral dot_S32768x2048_S2048x2560_S32768x2560_1_0_0_1_n_n none (extf .f32 a0 bitsLt_bf16_f32) a1

/-- The reference's result at an index: a sum over the input channels. -/
theorem ref_at (a0 : FVec Ideal S32768x2048 .bf16) (a1 : FVec Ideal S2048x2560 .f32) (j : S32768x2560.Idx) :
    REF a0 a1 j = ∑ l : Fin 2048, a0 (ix2 (j 0) l) * a1 (ix2 l (j 1)) := by
  pointwise [REF]

end Cert.SwaProjRefIdeal.Value

namespace Cert.SwaProjIdeal.Value

open Cert.SwaProjIdeal Cert.SwaProjIdeal.Gen
open Cert.SwaProjRefIdeal.Value (REF ref_at)

/-- One block of the call's result at an index. -/
theorem pay_at (v0 : FVec Ideal S1024x2048 .bf16) (v1 : FVec Ideal S2048x512 .bf16) (j : S1024x512.Idx) :
    k0_pay1 (F := Ideal) v0 v1 j = ∑ l : Fin 2048, v0 (ix2 (j 0) l) * v1 (ix2 l (j 1)) := by
  pointwise [k0_pay1]

/-- Where every window's block lies at a grid point. -/
theorem idx : ∀ t : Fin cfg0.N, win0_0.index t = ![t.val / 5, 0] ∧ win0_1.index t = ![0, t.val % 5]
    ∧ win0_2.index t = ![t.val / 5, t.val % 5] :=
  (by decide +kernel : ∀ t : Fin grid0.N, _)

variable (m : (ℓ : Loc nD τ sig) → Buf (Elt Ideal) ℓ)

/-- The result array after the run is the reference's product of the call's arguments. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2]
  unfold out0_2
  frame_out
  refine (pay_at _ _ _).trans (Eq.trans ?_ (ref_at _ _ _).symm)
  refine Fin.sum_fin_congr fun l => Ideal.mul_congr ?_ ?_
  · blk_ext [iblk, V, idx t]
  · blk_ext [iblk, V, idx t]

/-- The call with its own words ends without fault, its arguments unchanged and its counters at zero. -/
theorem frame_words : @Cert.quiescent_SwaProj Cert.SwaProj.Gen.facts := fun m g _ => Cert.SwaProj.Gen.frame m g

/-- The call over the reals ends without fault, its arguments unchanged and its counters at zero. -/
theorem frame_ideal : @Cert.quiescent_SwaProjIdeal Cert.SwaProjIdeal.Gen.facts := fun m g _ => Cert.SwaProjIdeal.Gen.frame m g

/-- The reference ends without fault, its arguments unchanged and its counters at zero. -/
theorem frame_ref : @Cert.quiescent_SwaProjRefIdeal Cert.SwaProjRefIdeal.Gen.facts := fun m g _ =>
  (θ_run Cert.SwaProjRefIdeal.defs _ _).mono (fun r h => ⟨fun c => (h c).2, sem_eq_zero_of_no_sems (by decide) r.2⟩)
    (Cert.SwaProjRefIdeal.Value.run m g)

/-- The call and the reference compute the same function over the reals. -/
theorem value : @Cert.algebraic_SwaProjIdeal_SwaProjRefIdeal Cert.SwaProjIdeal.Gen.facts Cert.SwaProjRefIdeal.Gen.facts := by
  intro m g m' g' _ hagree
  refine ⟨fun c => (dats m 0 c).arrAt 2 (cfgs 0).N, ?_, ?_⟩
  · exact (θ_run Cert.SwaProjIdeal.defs _ _).mono (fun r h c => ⟨(h.1 c).1 2, h.2.1 c⟩)
      (θ_run_and (Cert.SwaProjIdeal.Gen.run_main m g) (Cert.SwaProjIdeal.Gen.frame m g))
  · refine (θ_run Cert.SwaProjRefIdeal.defs _ _).mono (fun r h c => ⟨(h c).1.trans ?_, (h c).2⟩) (Cert.SwaProjRefIdeal.Value.run m' g')
    obtain ⟨h0, h1⟩ := hagree c
    refine Eq.trans ?_ (final m c).symm
    rw [← h0, ← h1]
    rfl

end Cert.SwaProjIdeal.Value

end
-- ==== Proof.Proj.NsaProj.lean ====
/-
  The projection into a mixer of width 5632: every block of the call's result is the reference's product there, all 2048
  input channels being contracted at once.
-/
module

public import proofs.«01_k».proof.Proof.Gen.NsaProjIdeal.Frame
public import proofs.«01_k».proof.Proof.Gen.NsaProjRefIdeal.Run
public import proofs.«01_k».proof.Proof.Gen.NsaProj.Frame
public import proofs.«01_k».proof.Defs
public import Idealize.ShloMosaic.Lib.Claim
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.NsaProjRefIdeal.Value

open Cert.NsaProjRefIdeal Cert.NsaProjRefIdeal.Gen

/-- The product of the rows with the weights, as the reference forms it. -/
def REF (a0 : FVec Ideal S32768x2048 .bf16) (a1 : FVec Ideal S2048x5632 .f32) : FVec Ideal S32768x5632 .f32 :=
  Host.dotGeneral dot_S32768x2048_S2048x5632_S32768x5632_1_0_0_1_n_n none (extf .f32 a0 bitsLt_bf16_f32) a1

/-- The reference's result at an index: a sum over the input channels. -/
theorem ref_at (a0 : FVec Ideal S32768x2048 .bf16) (a1 : FVec Ideal S2048x5632 .f32) (j : S32768x5632.Idx) :
    REF a0 a1 j = ∑ l : Fin 2048, a0 (ix2 (j 0) l) * a1 (ix2 l (j 1)) := by
  pointwise [REF]

end Cert.NsaProjRefIdeal.Value

namespace Cert.NsaProjIdeal.Value

open Cert.NsaProjIdeal Cert.NsaProjIdeal.Gen
open Cert.NsaProjRefIdeal.Value (REF ref_at)

/-- One block of the call's result at an index. -/
theorem pay_at (v0 : FVec Ideal S1024x2048 .bf16) (v1 : FVec Ideal S2048x512 .bf16) (j : S1024x512.Idx) :
    k0_pay1 (F := Ideal) v0 v1 j = ∑ l : Fin 2048, v0 (ix2 (j 0) l) * v1 (ix2 l (j 1)) := by
  pointwise [k0_pay1]

/-- Where every window's block lies at a grid point. -/
theorem idx : ∀ t : Fin cfg0.N, win0_0.index t = ![t.val / 11, 0] ∧ win0_1.index t = ![0, t.val % 11]
    ∧ win0_2.index t = ![t.val / 11, t.val % 11] :=
  (by decide +kernel : ∀ t : Fin grid0.N, _)

variable (m : (ℓ : Loc nD τ sig) → Buf (Elt Ideal) ℓ)

/-- The result array after the run is the reference's product of the call's arguments. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2]
  unfold out0_2
  frame_out
  refine (pay_at _ _ _).trans (Eq.trans ?_ (ref_at _ _ _).symm)
  refine Fin.sum_fin_congr fun l => Ideal.mul_congr ?_ ?_
  · blk_ext [iblk, V, idx t]
  · blk_ext [iblk, V, idx t]

/-- The call with its own words ends without fault, its arguments unchanged and its counters at zero. -/
theorem frame_words : @Cert.quiescent_NsaProj Cert.NsaProj.Gen.facts := fun m g _ => Cert.NsaProj.Gen.frame m g

/-- The call over the reals ends without fault, its arguments unchanged and its counters at zero. -/
theorem frame_ideal : @Cert.quiescent_NsaProjIdeal Cert.NsaProjIdeal.Gen.facts := fun m g _ => Cert.NsaProjIdeal.Gen.frame m g

/-- The reference ends without fault, its arguments unchanged and its counters at zero. -/
theorem frame_ref : @Cert.quiescent_NsaProjRefIdeal Cert.NsaProjRefIdeal.Gen.facts := fun m g _ =>
  (θ_run Cert.NsaProjRefIdeal.defs _ _).mono (fun r h => ⟨fun c => (h c).2, sem_eq_zero_of_no_sems (by decide) r.2⟩)
    (Cert.NsaProjRefIdeal.Value.run m g)

/-- The call and the reference compute the same function over the reals. -/
theorem value : @Cert.algebraic_NsaProjIdeal_NsaProjRefIdeal Cert.NsaProjIdeal.Gen.facts Cert.NsaProjRefIdeal.Gen.facts := by
  intro m g m' g' _ hagree
  refine ⟨fun c => (dats m 0 c).arrAt 2 (cfgs 0).N, ?_, ?_⟩
  · exact (θ_run Cert.NsaProjIdeal.defs _ _).mono (fun r h c => ⟨(h.1 c).1 2, h.2.1 c⟩)
      (θ_run_and (Cert.NsaProjIdeal.Gen.run_main m g) (Cert.NsaProjIdeal.Gen.frame m g))
  · refine (θ_run Cert.NsaProjRefIdeal.defs _ _).mono (fun r h c => ⟨(h c).1.trans ?_, (h c).2⟩) (Cert.NsaProjRefIdeal.Value.run m' g')
    obtain ⟨h0, h1⟩ := hagree c
    refine Eq.trans ?_ (final m c).symm
    rw [← h0, ← h1]
    rfl

end Cert.NsaProjIdeal.Value

end
-- ==== Proof.Proj.Out.lean ====
/-
  A mixer's output projection with its gated residual: every block of the call's result is the reference's residual plus
  gate times product there.
-/
module

public import proofs.«01_k».proof.Proof.Gen.OutIdeal.Frame
public import proofs.«01_k».proof.Proof.Gen.OutRefIdeal.Run
public import proofs.«01_k».proof.Proof.Gen.Out.Frame
public import proofs.«01_k».proof.Defs
public import Idealize.ShloMosaic.Lib.Claim
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.OutRefIdeal.Value

open Cert.OutRefIdeal Cert.OutRefIdeal.Gen

/-- Residual plus gate times product, as the reference forms it. -/
def REF (a0 : FVec Ideal S32768x2048 .bf16) (a1 : FVec Ideal S2048x2048 .f32) (a2 : FVec Ideal S32768x2048 .f32)
    (a3 : FVec Ideal S48x1x2048 .f32) : FVec Ideal S32768x2048 .f32 :=
  shapeCast _ (addf (shapeCast _ a2 shapeCasts_S32768x2048_S8x4096x2048) (mulf (broadcastInDim S8x4096x2048 ![0, 1, 2] bcast_S8x1x2048_S8x4096x2048_0_1_2 (extractStridedSlice S8x1x2048 ![0, 0, 4096] (shapeCast _ a3 shapeCasts_S48x1x2048_S8x1x12288) slices_S8x1x12288_S8x1x2048_0_0_4096)) (shapeCast _ (Host.dotGeneral dot_S32768x2048_S2048x2048_S32768x2048_1_0_0_1_n_n none (extf .f32 a0 bitsLt_bf16_f32) a1) shapeCasts_S32768x2048_S8x4096x2048))) shapeCasts_S8x4096x2048_S32768x2048

/-- The reference's result at a row and column. -/
theorem ref_at (a0 : FVec Ideal S32768x2048 .bf16) (a1 : FVec Ideal S2048x2048 .f32) (a2 : FVec Ideal S32768x2048 .f32)
    (a3 : FVec Ideal S48x1x2048 .f32) (r : Fin 32768) (d : Fin 2048) :
    REF a0 a1 a2 a3 (ix2 r d) = a2 (ix2 r d) + a3 (ix3 ⟨r.val / 4096 * 6 + 2, by omega⟩ 0 d)
      * ∑ l : Fin 2048, a0 (ix2 r l) * a1 (ix2 l d) := by
  pointwise [REF]
  have h : (⟨r.val / 4096 * 6 + (4096 + d.val) / 2048, by omega⟩ : Fin 48) = ⟨r.val / 4096 * 6 + 2, by omega⟩ :=
    Fin.ext (by dsimp only; omega)
  rw [h]

/-- The same at an index of the result. -/
theorem ref_at' (a0 : FVec Ideal S32768x2048 .bf16) (a1 : FVec Ideal S2048x2048 .f32) (a2 : FVec Ideal S32768x2048 .f32)
    (a3 : FVec Ideal S48x1x2048 .f32) (j : S32768x2048.Idx) :
    REF a0 a1 a2 a3 j = a2 (ix2 (j 0) (j 1))
      + a3 (ix3 ⟨(j 0).val / 4096 * 6 + 2, by have : (j 0).val < 32768 := (j 0).isLt; omega⟩ 0 (j 1))
      * ∑ l : Fin 2048, a0 (ix2 (j 0) l) * a1 (ix2 l (j 1)) := by
  conv_lhs => rw [eq_ix2 j]
  exact ref_at a0 a1 a2 a3 (j 0) (j 1)

end Cert.OutRefIdeal.Value

namespace Cert.OutIdeal.Value

open Cert.OutIdeal Cert.OutIdeal.Gen
open Cert.OutRefIdeal.Value (REF ref_at')

/-- One block of the call's result at an index. -/
theorem pay_at (v0 : FVec Ideal S1024x2048 .bf16) (v1 : FVec Ideal S2048x512 .bf16) (v4 : FVec Ideal S1024x512 .f32)
    (v5 : FVec Ideal S1x1x512 .f32) (j : S1024x512.Idx) :
    k0_pay1 (F := Ideal) v0 v1 v4 v5 j
      = v4 j + v5 (ix3 0 0 (j 1)) * ∑ l : Fin 2048, v0 (ix2 (j 0) l) * v1 (ix2 l (j 1)) := by
  pointwise [k0_pay1]

/-- Where every window's block lies at a grid point. -/
theorem idx : ∀ t : Fin cfg0.N, win0_0.index t = ![t.val / 4, 0] ∧ win0_1.index t = ![0, t.val % 4]
    ∧ win0_2.index t = ![t.val / 4, t.val % 4] ∧ win0_3.index t = ![t.val / 16 * 6 + 2, 0, t.val % 4]
    ∧ win0_4.index t = ![t.val / 4, t.val % 4] :=
  (by decide +kernel : ∀ t : Fin grid0.N, _)

variable (m : (ℓ : Loc nD τ sig) → Buf (Elt Ideal) ℓ)

/-- The result array after the run is the reference's result of the call's arguments. -/
theorem final (c : Dev nD) : (dats m 0 c).arrAt 4 (cfgs 0).N
    = REF (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp
  rw [after0_4]
  unfold out0_4
  frame_out
  refine (pay_at _ _ _ _ _).trans (Eq.trans ?_ (ref_at' _ _ _ _ _).symm)
  refine Ideal.add_congr ?_ (Ideal.mul_congr ?_ (Fin.sum_fin_congr fun l => Ideal.mul_congr ?_ ?_))
  · blk_ext [iblk, V, idx t]
  · blk_ext [iblk, V, idx t]
  · blk_ext [iblk, V, idx t]
  · blk_ext [iblk, V, idx t]

/-- The call with its own words ends without fault, its arguments unchanged and its counters at zero. -/
theorem frame_words : @Cert.quiescent_Out Cert.Out.Gen.facts := fun m g _ => Cert.Out.Gen.frame m g

/-- The call over the reals ends without fault, its arguments unchanged and its counters at zero. -/
theorem frame_ideal : @Cert.quiescent_OutIdeal Cert.OutIdeal.Gen.facts := fun m g _ => Cert.OutIdeal.Gen.frame m g

/-- The reference ends without fault, its arguments unchanged and its counters at zero. -/
theorem frame_ref : @Cert.quiescent_OutRefIdeal Cert.OutRefIdeal.Gen.facts := fun m g _ =>
  (θ_run Cert.OutRefIdeal.defs _ _).mono (fun r h => ⟨fun c => (h c).2, sem_eq_zero_of_no_sems (by decide) r.2⟩)
    (Cert.OutRefIdeal.Value.run m g)

/-- The call and the reference compute the same function over the reals. -/
theorem value : @Cert.algebraic_OutIdeal_OutRefIdeal Cert.OutIdeal.Gen.facts Cert.OutRefIdeal.Gen.facts := by
  intro m g m' g' _ hagree
  refine ⟨fun c => (dats m 0 c).arrAt 4 (cfgs 0).N, ?_, ?_⟩
  · exact (θ_run Cert.OutIdeal.defs _ _).mono (fun r h c => ⟨(h.1 c).1 4, h.2.1 c⟩)
      (θ_run_and (Cert.OutIdeal.Gen.run_main m g) (Cert.OutIdeal.Gen.frame m g))
  · refine (θ_run Cert.OutRefIdeal.defs _ _).mono (fun r h c => ⟨(h c).1.trans ?_, (h c).2⟩) (Cert.OutRefIdeal.Value.run m' g')
    obtain ⟨h0, h1, h2, h3⟩ := hagree c
    refine Eq.trans ?_ (final m c).symm
    rw [← h0, ← h1, ← h2, ← h3]
    rfl

end Cert.OutIdeal.Value

end
-- ==== Proof.Swa.Soft.lean ====
/-
  Attention of one query row over any number of keys, with a mask and a sink: the weights, the output, and that the
  output only depends on the keys the mask keeps.
-/
module

public import Idealize.ShloMosaic.Lib.Pointwise

@[expose] public section

noncomputable section

open Idealize.ShloMosaic

namespace Cert.Soft

/-- A vector over its root mean square, times a gain. -/
def rms (x g : Fin 64 → EReal) (d : Fin 64) : EReal :=
  x d * Ideal.rsqrt (Ideal.div (∑ l, x l * x l) (Ideal.ofBits .f32 0x42800000#32) + Ideal.ofBits .f32 0x358637BD#32) * g d

/-- The score of a kept key, and minus infinity in place of a masked one's. -/
def msk {n : Nat} (ok : Fin n → BitVec 1) (s : Fin n → EReal) (k : Fin n) : EReal :=
  Scalar.select (ok k) (s k) (Ideal.ofBits .f32 0xFF800000#32)

/-- The greatest of the masked scores and the sink. -/
def top {n : Nat} (ok : Fin n → BitVec 1) (s : Fin n → EReal) (sink : EReal) : EReal :=
  max (Finset.univ.fold max (Ideal.ofBits .f32 0xFF800000#32) (fun k => msk ok s k)) sink

/-- The exponential of a kept key's score less the greatest, and zero for a masked key. -/
def expo {n : Nat} (ok : Fin n → BitVec 1) (s : Fin n → EReal) (sink : EReal) (k : Fin n) : EReal :=
  Scalar.select (ok k) (Ideal.exp (msk ok s k - top ok s sink)) 0

/-- The sum of the exponentials, the sink's included, kept away from zero. -/
def den {n : Nat} (ok : Fin n → BitVec 1) (s : Fin n → EReal) (sink : EReal) : EReal :=
  max (∑ k, expo ok s sink k + Ideal.exp (sink - top ok s sink)) (Ideal.ofBits .f32 0x0DA24260#32)

/-- The weighted sum of the values. -/
def att {n : Nat} (ok : Fin n → BitVec 1) (s v : Fin n → EReal) (sink : EReal) : EReal :=
  ∑ k, Ideal.div (expo ok s sink k) (den ok s sink) * v k

/-- A selection where the mask does not keep. -/
theorem select_masked {α : Type} {c : BitVec 1} (h : c ≠ 1#1) (a b : α) : Scalar.select c a b = b := if_neg h

/-- The least the sum may be is positive. -/
theorem tiny_pos : 0 < Ideal.ofBits .f32 0x0DA24260#32 := by
  simp [Ideal.ofBits, Ideal.ieee]
  rw [← EReal.coe_mul]
  exact EReal.coe_pos.2 (by positivity)

/-- The sum of the exponentials is not zero. -/
theorem den_ne_zero {n : Nat} (ok : Fin n → BitVec 1) (s : Fin n → EReal) (sink : EReal) : den ok s sink ≠ 0 :=
  (lt_of_lt_of_le tiny_pos (le_max_right _ _)).ne'

/-- Zero over anything but zero is zero. -/
theorem div_zero_left (y : EReal) (h : y ≠ 0) : Ideal.div 0 y = 0 := by
  rw [Ideal.div, if_neg h, zero_mul]

section
variable {n N : Nat} {ok : Fin n → BitVec 1} {ok' : Fin N → BitVec 1} {s v : Fin n → EReal} {s' v' : Fin N → EReal}
  (φ : Fin n → Fin N) (hin : ∀ k, ok k = 1#1 → ok' (φ k) = 1#1 ∧ s' (φ k) = s k ∧ v' (φ k) = v k)
  (inj : ∀ k l, ok k = 1#1 → ok l = 1#1 → φ k = φ l → k = l)
  (sur : ∀ j, ok' j = 1#1 → ∃ k, ok k = 1#1 ∧ φ k = j)
include hin inj sur

/-- A sum over the kept keys alone is the same on both sides. -/
theorem sum_kept (f : Fin n → EReal) (f' : Fin N → EReal) (h0 : ∀ k, ok k ≠ 1#1 → f k = 0) (h0' : ∀ k, ok' k ≠ 1#1 → f' k = 0)
    (hf : ∀ k, ok k = 1#1 → f' (φ k) = f k) : ∑ k, f k = ∑ k, f' k := by
  refine Finset.sum_bij_ne_zero (fun k _ _ => φ k) (fun _ _ _ => Finset.mem_univ _) ?_ ?_ ?_
  · intro a _ ha b _ hb h
    exact inj a b (by by_contra hc; exact ha (h0 a hc)) (by by_contra hc; exact hb (h0 b hc)) h
  · intro b _ hb
    obtain ⟨k, hk, rfl⟩ := sur b (by by_contra hc; exact hb (h0' b hc))
    exact ⟨k, Finset.mem_univ _, by rwa [← hf k hk], rfl⟩
  · intro a _ ha
    exact (hf a (by by_contra hc; exact ha (h0 a hc))).symm

/-- The greatest is the same on both sides, a masked key being among either's. -/
theorem top_kept (hole : ∃ k, ok k ≠ 1#1) (hole' : ∃ k, ok' k ≠ 1#1) (sink : EReal) : top ok s sink = top ok' s' sink := by
  obtain ⟨a, ha⟩ := hole
  obtain ⟨b, hb⟩ := hole'
  unfold top
  refine congrArg (max · sink) (le_antisymm ?_ ?_)
  · rw [Finset.fold_max_le]
    refine ⟨(Finset.le_fold_max _).2 (Or.inl le_rfl), fun k _ => (Finset.le_fold_max _).2 (Or.inr ?_)⟩
    by_cases hk : ok k = 1#1
    · exact ⟨φ k, Finset.mem_univ _, by rw [msk, msk, hk, (hin k hk).1, (hin k hk).2.1]⟩
    · exact ⟨b, Finset.mem_univ _, by rw [msk, msk, select_masked hk, select_masked hb]⟩
  · rw [Finset.fold_max_le]
    refine ⟨(Finset.le_fold_max _).2 (Or.inl le_rfl), fun k _ => (Finset.le_fold_max _).2 (Or.inr ?_)⟩
    by_cases hk : ok' k = 1#1
    · obtain ⟨l, hl, rfl⟩ := sur k hk
      exact ⟨l, Finset.mem_univ _, by rw [msk, msk, hk, hl, (hin l hl).2.1]⟩
    · exact ⟨a, Finset.mem_univ _, by rw [msk, msk, select_masked hk, select_masked ha]⟩

/-- The output only depends on the keys the mask keeps. -/
theorem att_kept (hole : ∃ k, ok k ≠ 1#1) (hole' : ∃ k, ok' k ≠ 1#1) (sink : EReal) : att ok s v sink = att ok' s' v' sink := by
  have ht := top_kept φ hin inj sur hole hole' sink
  have he0 : ∀ k, ok k ≠ 1#1 → expo ok s sink k = 0 := fun k hk => by rw [expo, select_masked hk]
  have he0' : ∀ k, ok' k ≠ 1#1 → expo ok' s' sink k = 0 := fun k hk => by rw [expo, select_masked hk]
  have he : ∀ k, ok k = 1#1 → expo ok' s' sink (φ k) = expo ok s sink k := fun k hk => by
    rw [expo, expo, msk, msk, hk, (hin k hk).1, (hin k hk).2.1, ht]
  have hd : den ok s sink = den ok' s' sink := by
    rw [den, den, ht, sum_kept φ hin inj sur _ _ he0 he0' he]
  refine sum_kept φ hin inj sur _ _ (fun k hk => ?_) (fun k hk => ?_) (fun k hk => ?_)
  · rw [he0 k hk, div_zero_left _ (den_ne_zero _ _ _), zero_mul]
  · rw [he0' k hk, div_zero_left _ (den_ne_zero _ _ _), zero_mul]
  · rw [he k hk, hd, (hin k hk).2.2]

end

/-- The score's scale is an eighth. -/
theorem eighth : Ideal.ofBits .f32 0x3E000000#32 = (((1 : ℝ) / 8 : ℝ) : EReal) := by
  simp [Ideal.ofBits, Ideal.ieee]
  rw [← EReal.coe_mul]
  norm_num

/-- Scaling every query entry by an eighth scales the product. -/
theorem score_scaled {n : Nat} (q k : Fin n → EReal) :
    ∑ l, q l * Ideal.ofBits .f32 0x3E000000#32 * k l = (∑ l, k l * q l) * Ideal.ofBits .f32 0x3E000000#32 := by
  have h0 : (0 : EReal) ≤ Ideal.ofBits .f32 0x3E000000#32 := by rw [eighth]; exact_mod_cast (by norm_num : (0 : ℝ) ≤ 1 / 8)
  have ht : Ideal.ofBits .f32 0x3E000000#32 ≠ ⊤ := by rw [eighth]; exact EReal.coe_ne_top _
  generalize Ideal.ofBits .f32 0x3E000000#32 = c at h0 ht
  rw [mul_comm]
  have : ∀ S : Finset (Fin n), c * ∑ l ∈ S, k l * q l = ∑ l ∈ S, q l * c * k l := by
    intro S
    induction S using Finset.induction_on with
    | empty => simp
    | insert a S ha ih =>
      rw [Finset.sum_insert ha, Finset.sum_insert ha, EReal.left_distrib_of_nonneg_of_ne_top h0 ht, ih, mul_comm (q a) c, mul_assoc, mul_comm (k a)]
  exact (this _).symm

end Cert.Soft

end
-- ==== Proof.Swa.Tile.lean ====
/-
  The sliding-window attention's block result as the call forms it, from small steps with names of their own.
-/
module

public import proofs.«01_k».proof.Proof.Swa.Soft
public import proofs.«01_k».proof.Proof.Gen.SwaIdeal.Frame
public import proofs.«01_k».proof.Proof.Gen.SwaRefIdeal.Run
public import Idealize.ShloMosaic.Lib.Pointwise
public import Idealize.ShloMosaic.Lib.Pipeline.ValueKit
public import Idealize.ShloMosaic.Lib.Pipeline.ReadBack

@[expose] public section

set_option maxRecDepth 65536

noncomputable section

open Idealize.ShloMosaic Idealize.ShloMosaic.TcCoe Idealize.SL.Sem
open Idealize.ShloMosaic.Pipeline (Dat)

namespace Cert.SwaIdeal.Value
open Cert.SwaIdeal Cert.SwaIdeal.Gen

/-- The slope of a head, as the call spells it: a name, or a word where the slope is a power of two. -/
def slope (h : Fin 32) : Ideal .f32 :=
  match h.val with
  | 0 => Named.named κ "slope1" 0x3F5744FD#32
  | 1 => Named.named κ "slope2" 0x3F3504F3#32
  | 2 => Named.named κ "slope3" 0x3F1837F0#32
  | 3 => FloatOps.ofBits .f32 0x3F000000#32
  | 4 => Named.named κ "slope5" 0x3ED744FD#32
  | 5 => Named.named κ "slope6" 0x3EB504F3#32
  | 6 => Named.named κ "slope7" 0x3E9837F0#32
  | 7 => FloatOps.ofBits .f32 0x3E800000#32
  | 8 => Named.named κ "slope9" 0x3E5744FD#32
  | 9 => Named.named κ "slope10" 0x3E3504F3#32
  | 10 => Named.named κ "slope11" 0x3E1837F0#32
  | 11 => FloatOps.ofBits .f32 0x3E000000#32
  | 12 => Named.named κ "slope13" 0x3DD744FD#32
  | 13 => Named.named κ "slope14" 0x3DB504F3#32
  | 14 => Named.named κ "slope15" 0x3D9837F0#32
  | 15 => FloatOps.ofBits .f32 0x3D800000#32
  | 16 => Named.named κ "slope17" 0x3D5744FD#32
  | 17 => Named.named κ "slope18" 0x3D3504F3#32
  | 18 => Named.named κ "slope19" 0x3D1837F0#32
  | 19 => FloatOps.ofBits .f32 0x3D000000#32
  | 20 => Named.named κ "slope21" 0x3CD744FD#32
  | 21 => Named.named κ "slope22" 0x3CB504F3#32
  | 22 => Named.named κ "slope23" 0x3C9837F0#32
  | 23 => FloatOps.ofBits .f32 0x3C800000#32
  | 24 => Named.named κ "slope25" 0x3C5744FD#32
  | 25 => Named.named κ "slope26" 0x3C3504F3#32
  | 26 => Named.named κ "slope27" 0x3C1837F0#32
  | 27 => FloatOps.ofBits .f32 0x3C000000#32
  | 28 => Named.named κ "slope29" 0x3BD744FD#32
  | 29 => Named.named κ "slope30" 0x3BB504F3#32
  | 30 => Named.named κ "slope31" 0x3B9837F0#32
  | _ => FloatOps.ofBits .f32 0x3B800000#32

/-- A query head's 128 rows, each divided by its root mean square and scaled by the gain. -/
def nrmQ (x : FVec Ideal S128x64 .f32) (g : FVec Ideal S1x64 .f32) : FVec Ideal S128x64 .f32 :=
  mulf (mulf x (broadcastTo S128x64 (rsqrt (addf (divf (shapeCast S128x1
    (multiReduction .add [1] S128 (mulf x x) 0x00000000#32 reduces_S128x64_S128 (.inl rfl) rfl) shapeCasts_S128_S128x1)
    (broadcast S128x1 (Scalar.ofBits .f32 0x42800000#32))) (broadcast S128x1 (Scalar.ofBits .f32 0x358637BD#32))))
    broadcasts_S128x1_S128x64)) (broadcastTo S128x64 (shapeCast S1x64 g shapeCasts_S1x64_S1x64) broadcasts_S1x64_S128x64)

/-- The same for the 256 key rows. -/
def nrmK (x : FVec Ideal S256x64 .f32) (g : FVec Ideal S1x64 .f32) : FVec Ideal S256x64 .f32 :=
  mulf (mulf x (broadcastTo S256x64 (rsqrt (addf (divf (shapeCast S256x1
    (multiReduction .add [1] S256 (mulf x x) 0x00000000#32 reduces_S256x64_S256 (.inl rfl) rfl) shapeCasts_S256_S256x1)
    (broadcast S256x1 (Scalar.ofBits .f32 0x42800000#32))) (broadcast S256x1 (Scalar.ofBits .f32 0x358637BD#32))))
    broadcasts_S256x1_S256x64)) (broadcastTo S256x64 (shapeCast S1x64 g shapeCasts_S1x64_S1x64) broadcasts_S1x64_S256x64)

/-- Every head's columns lie within the query block. -/
theorem sliceQ (h : Fin 32) : S128x2048.Slices ![0, 64 * h.val] S128x64 := by revert h; decide

/-- Every group's columns lie within the key block. -/
theorem sliceK (g : Fin 4) : S256x256.Slices ![0, 64 * g.val] S256x64 := by revert g; decide

/-- Every head's rows lie within the group's scores. -/
theorem sliceS (r : Fin 8) : S1024x256.Slices ![128 * r.val, 0] S128x256 := by revert r; decide

/-- Every head's rows lie within the group's outputs. -/
theorem sliceO (r : Fin 8) : S1024x64.Slices ![128 * r.val, 0] S128x64 := by revert r; decide

/-- The head of a group. -/
def hd (g : Fin 4) (r : Fin 8) : Fin 32 := ⟨8 * g.val + r.val, by omega⟩

/-- A group's scores before the distance penalty: its eight heads' scaled queries against its keys. -/
def scores (q : FVec Ideal S128x2048 .f32) (k : FVec Ideal S256x256 .f32) (qg kg : FVec Ideal S1x64 .f32) (g : Fin 4) :
    FVec Ideal S1024x256 .f32 :=
  matmul dot_S1024x64_S256x64_S1024x256_1_1_0_0_n_n none
    (truncf .bf16 (mulf (concatenate S1024x64 0 (List.ofFn fun r : Fin 8 =>
      (⟨S128x64, nrmQ (extractStridedSlice S128x64 ![0, 64 * (hd g r).val] q (sliceQ (hd g r))) qg⟩ : (s : Shape) × (s.Idx → Elt Ideal .f32)))
      concatenates_S128x64_S128x64_S128x64_S128x64_S128x64_S128x64_S128x64_S128x64_S1024x64_d0)
      (broadcast S1024x64 (Scalar.ofBits .f32 0x3E000000#32))) bitsLt_bf16_f32)
    (truncf .bf16 (nrmK (extractStridedSlice S256x64 ![0, 64 * g.val] k (sliceK g)) kg) bitsLt_bf16_f32)
    (constant S1024x256 .f32 0x00000000#32)

/-- One head's masked scores. -/
def masked (s : FVec Ideal S128x256 .f32) (sl : Ideal .f32) (dist : FVec Ideal S128x256 .f32) (ok : IVec S128x256 1) :
    FVec Ideal S128x256 .f32 :=
  select ok (subf s (mulf (broadcast S128x256 sl) dist)) (broadcast S128x256 (Named.named κ "mask" 0xF149F2CA#32))

/-- The greatest of each row's masked scores and the sink. -/
def top (s : FVec Ideal S128x256 .f32) (sink : Ideal .f32) : FVec Ideal S128x1 .f32 :=
  maximumf (shapeCast S128x1 (multiReduction .maximumf [1] S128 s 0xFF800000#32 reduces_S128x256_S128 (.inl rfl) rfl) shapeCasts_S128_S128x1)
    (broadcast S128x1 sink)

/-- The exponentials of the masked scores less their row's greatest, zero where masked. -/
def expo (s : FVec Ideal S128x256 .f32) (m : FVec Ideal S128x1 .f32) (ok : IVec S128x256 1) : FVec Ideal S128x256 .f32 :=
  select ok (exp (subf s (broadcastTo S128x256 m broadcasts_S128x1_S128x256))) (broadcast S128x256 (Scalar.ofBits .f32 0x00000000#32))

/-- The exponentials over their row's sum, the sink's exponential within the sum. -/
def quot (e : FVec Ideal S128x256 .f32) (m : FVec Ideal S128x1 .f32) (sink : Ideal .f32) : FVec Ideal S128x256 .f32 :=
  divf e (broadcastTo S128x256 (maximumf (addf (shapeCast S128x1
    (multiReduction .add [1] S128 e 0x00000000#32 reduces_S128x256_S128 (.inl rfl) rfl) shapeCasts_S128_S128x1)
    (exp (subf (broadcast S128x1 sink) m))) (broadcast S128x1 (Scalar.ofBits .f32 0x0DA24260#32))) broadcasts_S128x1_S128x256)

/-- One head's weights. -/
def head (s : FVec Ideal S128x256 .f32) (sl sink : Ideal .f32) (dist : FVec Ideal S128x256 .f32) (ok : IVec S128x256 1) :
    FVec Ideal S128x256 .f32 :=
  quot (expo (masked s sl dist ok) (top (masked s sl dist ok) sink) ok) (top (masked s sl dist ok) sink) sink

/-- A group's outputs: its heads' weights against its values. -/
def mix (q : FVec Ideal S128x2048 .f32) (k v : FVec Ideal S256x256 .f32) (qg kg : FVec Ideal S1x64 .f32) (sk : Fin 32 → Ideal .f32)
    (dist : FVec Ideal S128x256 .f32) (ok : IVec S128x256 1) (g : Fin 4) : FVec Ideal S1024x64 .f32 :=
  matmul dot_S1024x256_S256x64_S1024x64_1_0_0_1_n_n none
    (truncf .bf16 (concatenate S1024x256 0 (List.ofFn fun r : Fin 8 =>
      (⟨S128x256, head (extractStridedSlice S128x256 ![128 * r.val, 0] (scores q k qg kg g) (sliceS r)) (slope (hd g r)) (sk (hd g r)) dist ok⟩ :
        (s : Shape) × (s.Idx → Elt Ideal .f32)))
      concatenates_S128x256_S128x256_S128x256_S128x256_S128x256_S128x256_S128x256_S128x256_S1024x256_d0) bitsLt_bf16_f32)
    (truncf .bf16 (extractStridedSlice S256x64 ![0, 64 * g.val] v (sliceK g)) bitsLt_bf16_f32)
    (constant S1024x64 .f32 0x00000000#32)

/-- The block's result: each head's output in its 64 columns. -/
def tile (q : FVec Ideal S128x2048 .f32) (k v : FVec Ideal S256x256 .f32) (qg kg : FVec Ideal S1x64 .f32) (sk : Fin 32 → Ideal .f32)
    (dist : FVec Ideal S128x256 .f32) (ok : IVec S128x256 1) : FVec Ideal S128x2048 .f32 :=
  concatenate S128x2048 1 (List.ofFn fun h : Fin 32 =>
    (⟨S128x64, extractStridedSlice S128x64 ![128 * (h.val % 8), 0] (mix q k v qg kg sk dist ok ⟨h.val / 8, by omega⟩) (sliceO ⟨h.val % 8, by omega⟩)⟩ :
      (s : Shape) × (s.Idx → Elt Ideal .f32)))
    concatenates_S128x64_S128x64_S128x64_S128x64_S128x64_S128x64_S128x64_S128x64_S128x64_S128x64_S128x64_S128x64_S128x64_S128x64_S128x64_S128x64_S128x64_S128x64_S128x64_S128x64_S128x64_S128x64_S128x64_S128x64_S128x64_S128x64_S128x64_S128x64_S128x64_S128x64_S128x64_S128x64_S128x2048_d1

/-- A head's sink within the array of sinks. -/
theorem inSinks (h : Fin 32) : ∀ a, (![h.val] : Fin 1 → Nat) a + S1.size a ≤ S32.size a := by revert h; decide

/-- The sink a head reads. -/
def sinkAt (b : FVec Ideal S32 .f32) (h : Fin 32) : Ideal .f32 :=
  b ((Rect.unit (s := S32) ![h.val] ![1] (inSinks h)).idx (Shape.Idx.first (s := S1) (by decide)))

variable (m : (ℓ : Loc nD τ sig) → Buf (Elt Ideal) ℓ)

set_option maxHeartbeats 1000000 in
/-- What the call writes at a grid point is that block of the blocks it reads. -/
theorem opened (c : Dev nD) (t : Fin cfg0.N) : outsAt0 m c t
    = k0_pay1 (tile (k0_pay2 (X0_1 m c t)) (k0_pay3 (iblk m c 2 t) (iblk m c 3 t)) (k0_pay4 (iblk m c 4 t) (iblk m c 5 t))
        (iblk m c 6 t) (iblk m c 7 t) (sinkAt (iblk m c 0 t)) (k0_pay7 (grid0.coords t)) (k0_pay8 (grid0.coords t))) := by
  unfold outsAt0 out0_A_8
  frame_out
  refine congrArg k0_pay1 ?_
  generalize X0_1 m c t = x1
  generalize iblk m c 0 t = x0
  generalize iblk m c 2 t = x2
  generalize iblk m c 3 t = x3
  generalize iblk m c 4 t = x4
  generalize iblk m c 5 t = x5
  generalize iblk m c 6 t = x6
  generalize iblk m c 7 t = x7
  generalize k0_pay7 (F := Ideal) (grid0.coords t) = x8
  generalize k0_pay8 (grid0.coords t) = x9
  generalize k0_pay4 (F := Ideal) x4 x5 = x11
  generalize k0_pay2 (F := Ideal) x1 = x12
  unfold tile
  rfl

end Cert.SwaIdeal.Value

end
-- ==== Proof.Swa.Ref.lean ====
/-
  The sliding-window attention's reference at an index: a row of weights over all 4096 keys, formed by the sinked softmax of
  `Cert.Soft`, against a value column.
-/
module

public import proofs.«01_k».proof.Proof.Swa.Soft
public import proofs.«01_k».proof.Proof.Gen.SwaRefIdeal.Run
public import Idealize.ShloMosaic.Lib.Pointwise

@[expose] public section

set_option maxRecDepth 65536

noncomputable section

open Idealize.ShloMosaic Idealize.ShloMosaic.TcCoe Idealize.SL.Sem

namespace Cert.SwaRefIdeal.Value
open Cert.SwaRefIdeal Cert.SwaRefIdeal.Gen
open Cert.Soft (rms)

/-- The distance from a key back to a query. -/
def dist : IVec S4096x4096 32 :=
  subi (broadcastInDim S4096x4096 ![0, 1] bcast_S4096x1_S4096x4096_0_1 (broadcastInDim S4096x1 ![0] bcast_S4096_S4096x1_0 (iotaInDim S4096 32 0)))
    (broadcastInDim S4096x4096 ![0, 1] bcast_S1x4096_S4096x4096_0_1 (broadcastInDim S1x4096 ![1] bcast_S4096_S1x4096_1 (iotaInDim S4096 32 0)))

/-- Which keys a query attends to: itself and the 127 before it. -/
def valid : IVec S4096x4096 1 :=
  andi (cmpi .sge dist (broadcastInDim S4096x4096 ![] bcast_S_S4096x4096 (constantI S_ 32 0#32)))
    (cmpi .slt dist (broadcastInDim S4096x4096 ![] bcast_S_S4096x4096 (constantI S_ 32 128#32)))

/-- The same for every batch, group and head. -/
def validAll : IVec S8x4x8x4096x4096 1 := broadcastInDim S8x4x8x4096x4096 ![3, 4] bcast_S4096x4096_S8x4x8x4096x4096_3_4 valid

/-- The normalised keys. -/
def kn (a0 : FVec Ideal S8x4096x2560 .f32) (a2 : FVec Ideal S64 .f32) : FVec Ideal S8x4096x4x64 .f32 :=
  mulf (mulf (shapeCast _ (extractStridedSlice S8x4096x256 ![0, 0, 2048] a0 slices_S8x4096x2560_S8x4096x256_0_0_2048) shapeCasts_S8x4096x256_S8x4096x4x64) (broadcastInDim S8x4096x4x64 ![0, 1, 2, 3] bcast_S8x4096x4x1_S8x4096x4x64_0_1_2_3 (Host.rsqrt (addf (Host.divf (broadcastInDim S8x4096x4x1 ![0, 1, 2] bcast_S8x4096x4_S8x4096x4x1_0_1_2 (Host.reduceAdd (mulf (shapeCast _ (extractStridedSlice S8x4096x256 ![0, 0, 2048] a0 slices_S8x4096x2560_S8x4096x256_0_0_2048) shapeCasts_S8x4096x256_S8x4096x4x64) (shapeCast _ (extractStridedSlice S8x4096x256 ![0, 0, 2048] a0 slices_S8x4096x2560_S8x4096x256_0_0_2048) shapeCasts_S8x4096x256_S8x4096x4x64)) (constant S_ .f32 0x00000000#32) reducesTo_S8x4096x4x64_S8x4096x4_d3 h_S_)) (broadcastInDim S8x4096x4x1 ![] bcast_S_S8x4096x4x1 (constant S_ .f32 0x42800000#32))) (broadcastInDim S8x4096x4x1 ![] bcast_S_S8x4096x4x1 (constant S_ .f32 0x358637BD#32)))))) (broadcastInDim S8x4096x4x64 ![0, 1, 2, 3] bcast_S1x1x1x64_S8x4096x4x64_0_1_2_3 (broadcastInDim S1x1x1x64 ![3] bcast_S64_S1x1x1x64_3 a2))

/-- The normalised queries. -/
def qn (a0 : FVec Ideal S8x4096x2560 .f32) (a1 : FVec Ideal S64 .f32) : FVec Ideal S8x4096x4x8x64 .f32 :=
  mulf (mulf (shapeCast _ (extractStridedSlice S8x4096x2048 ![0, 0, 0] a0 slices_S8x4096x2560_S8x4096x2048_0_0_0) shapeCasts_S8x4096x2048_S8x4096x4x8x64) (broadcastInDim S8x4096x4x8x64 ![0, 1, 2, 3, 4] bcast_S8x4096x4x8x1_S8x4096x4x8x64_0_1_2_3_4 (Host.rsqrt (addf (Host.divf (broadcastInDim S8x4096x4x8x1 ![0, 1, 2, 3] bcast_S8x4096x4x8_S8x4096x4x8x1_0_1_2_3 (Host.reduceAdd (mulf (shapeCast _ (extractStridedSlice S8x4096x2048 ![0, 0, 0] a0 slices_S8x4096x2560_S8x4096x2048_0_0_0) shapeCasts_S8x4096x2048_S8x4096x4x8x64) (shapeCast _ (extractStridedSlice S8x4096x2048 ![0, 0, 0] a0 slices_S8x4096x2560_S8x4096x2048_0_0_0) shapeCasts_S8x4096x2048_S8x4096x4x8x64)) (constant S_ .f32 0x00000000#32) reducesTo_S8x4096x4x8x64_S8x4096x4x8_d4 h_S_)) (broadcastInDim S8x4096x4x8x1 ![] bcast_S_S8x4096x4x8x1 (constant S_ .f32 0x42800000#32))) (broadcastInDim S8x4096x4x8x1 ![] bcast_S_S8x4096x4x8x1 (constant S_ .f32 0x358637BD#32)))))) (broadcastInDim S8x4096x4x8x64 ![0, 1, 2, 3, 4] bcast_S1x1x1x1x64_S8x4096x4x8x64_0_1_2_3_4 (broadcastInDim S1x1x1x1x64 ![4] bcast_S64_S1x1x1x1x64_4 a1))

/-- The products of queries and keys. -/
def prods (k : FVec Ideal S8x4096x4x64 .f32) (q : FVec Ideal S8x4096x4x8x64 .f32) : FVec Ideal S8x4x8x4096x4096 .f32 :=
  transpose S8x4x8x4096x4096 [0, 1, 4, 3, 2] (Host.dotGeneral dot_S8x4096x4x64_S8x4096x4x8x64_S8x4x4096x4096x8_3_4_1_13_02_02 none k q) transposes_S8x4x4096x4096x8_S8x4x8x4096x4096_0_1_4_3_2

/-- The heads' slopes: one over the fourth roots of the powers of two. -/
def slopes : FVec Ideal S32 .f32 :=
  Host.divf (broadcastInDim S32 ![] bcast_S_S32 (constant S_ .f32 0x3F800000#32))
    (Host.sqrt (Host.sqrt (fun i => FloatOps.ofBits .f32 (lit0 (S32.rowMajor i)))))

/-- A head's slope. -/
def refSlope (h : Fin 32) : EReal :=
  Ideal.div (Ideal.ofBits .f32 0x3F800000#32) (Ideal.sqrt (Ideal.sqrt (Ideal.ofBits .f32 (lit0 h))))

/-- Each head's penalty of a distance. -/
def penalty : FVec Ideal S8x4x8x4096x4096 .f32 :=
  broadcastInDim S8x4x8x4096x4096 ![0, 1, 2, 3, 4] bcast_S1x4x8x4096x4096_S8x4x8x4096x4096_0_1_2_3_4 (broadcastInDim S1x4x8x4096x4096 ![1, 2, 3, 4] bcast_S4x8x4096x4096_S1x4x8x4096x4096_1_2_3_4 (mulf (broadcastInDim S4x8x4096x4096 ![0, 1, 2, 3] bcast_S4x8x1x1_S4x8x4096x4096_0_1_2_3 (broadcastInDim S4x8x1x1 ![0, 1] bcast_S4x8_S4x8x1x1_0_1 (shapeCast _ slopes shapeCasts_S32_S4x8))) (broadcastInDim S4x8x4096x4096 ![0, 1, 2, 3] bcast_S1x1x4096x4096_S4x8x4096x4096_0_1_2_3 (broadcastInDim S1x1x4096x4096 ![2, 3] bcast_S4096x4096_S1x1x4096x4096_2_3 (sitofp .f32 dist)))))

/-- The scores, minus infinity where masked. -/
def masked (p pen : FVec Ideal S8x4x8x4096x4096 .f32) (ok : IVec S8x4x8x4096x4096 1) : FVec Ideal S8x4x8x4096x4096 .f32 :=
  select ok (subf (mulf p (broadcastInDim S8x4x8x4096x4096 ![] bcast_S_S8x4x8x4096x4096 (constant S_ .f32 0x3E000000#32))) pen) (broadcastInDim S8x4x8x4096x4096 ![] bcast_S_S8x4x8x4096x4096 (constant S_ .f32 0xFF800000#32))

/-- Each head's sink for every row. -/
def sinks (a3 : FVec Ideal S32 .f32) : FVec Ideal S8x4x8x4096x1 .f32 :=
  broadcastInDim S8x4x8x4096x1 ![0, 1, 2, 3, 4] bcast_S1x4x8x1x1_S8x4x8x4096x1_0_1_2_3_4 (broadcastInDim S1x4x8x1x1 ![1, 2, 3, 4] bcast_S4x8x1x1_S1x4x8x1x1_1_2_3_4 (broadcastInDim S4x8x1x1 ![0, 1] bcast_S4x8_S4x8x1x1_0_1 (shapeCast _ a3 shapeCasts_S32_S4x8)))

/-- The greatest of each row's entries. -/
def rowMax (mk : FVec Ideal S8x4x8x4096x4096 .f32) : FVec Ideal S8x4x8x4096 .f32 :=
  Host.reduce FloatOps.maximumf mk (constant S_ .f32 0xFF800000#32) reducesTo_S8x4x8x4096x4096_S8x4x8x4096_d4 h_S_

/-- The greatest of each row's masked scores and the sink. -/
def top (mx : FVec Ideal S8x4x8x4096 .f32) (sk : FVec Ideal S8x4x8x4096x1 .f32) : FVec Ideal S8x4x8x4096x1 .f32 :=
  maximumf (broadcastInDim S8x4x8x4096x1 ![0, 1, 2, 3] bcast_S8x4x8x4096_S8x4x8x4096x1_0_1_2_3 mx) sk

/-- The exponentials of the masked scores less their row's greatest, zero where masked. -/
def expo (mk : FVec Ideal S8x4x8x4096x4096 .f32) (tp : FVec Ideal S8x4x8x4096x1 .f32) (ok : IVec S8x4x8x4096x4096 1) : FVec Ideal S8x4x8x4096x4096 .f32 :=
  select ok (Host.exp (subf mk (broadcastInDim S8x4x8x4096x4096 ![0, 1, 2, 3, 4] bcast_S8x4x8x4096x1_S8x4x8x4096x4096_0_1_2_3_4 tp))) (broadcastInDim S8x4x8x4096x4096 ![] bcast_S_S8x4x8x4096x4096 (constant S_ .f32 0x00000000#32))

/-- The sum of each row's entries. -/
def rowSum (e : FVec Ideal S8x4x8x4096x4096 .f32) : FVec Ideal S8x4x8x4096 .f32 :=
  Host.reduceAdd e (constant S_ .f32 0x00000000#32) reducesTo_S8x4x8x4096x4096_S8x4x8x4096_d4 h_S_

/-- The exponentials over their row's sum, the sink's exponential within the sum. -/
def quot (e : FVec Ideal S8x4x8x4096x4096 .f32) (sm : FVec Ideal S8x4x8x4096 .f32) (tp sk : FVec Ideal S8x4x8x4096x1 .f32) : FVec Ideal S8x4x8x4096x4096 .f32 :=
  Host.divf e (broadcastInDim S8x4x8x4096x4096 ![0, 1, 2, 3, 4] bcast_S8x4x8x4096x1_S8x4x8x4096x4096_0_1_2_3_4 (maximumf (addf (broadcastInDim S8x4x8x4096x1 ![0, 1, 2, 3] bcast_S8x4x8x4096_S8x4x8x4096x1_0_1_2_3 sm) (Host.exp (subf sk tp))) (broadcastInDim S8x4x8x4096x1 ![] bcast_S_S8x4x8x4096x1 (constant S_ .f32 0x0DA24260#32))))

/-- The weights against the values, back in rows of 2048 columns. -/
def combine (a0 : FVec Ideal S8x4096x2560 .f32) (p : FVec Ideal S8x4x8x4096x4096 .f32) : FVec Ideal S8x4096x2048 .bf16 :=
  truncf .bf16 (shapeCast _ (transpose S8x4096x4x8x64 [0, 4, 1, 3, 2] (Host.dotGeneral dot_S8x4096x4x64_S8x4x8x4096x4096_S8x4x64x8x4096_1_4_3_23_02_01 none (shapeCast _ (extractStridedSlice S8x4096x256 ![0, 0, 2304] a0 slices_S8x4096x2560_S8x4096x256_0_0_2304) shapeCasts_S8x4096x256_S8x4096x4x64) p) transposes_S8x4x64x8x4096_S8x4096x4x8x64_0_4_1_3_2) shapeCasts_S8x4096x4x8x64_S8x4096x2048) bitsLt_bf16_f32

/-- The weights of masked scores. -/
def weights (mk : FVec Ideal S8x4x8x4096x4096 .f32) (sk : FVec Ideal S8x4x8x4096x1 .f32) (ok : IVec S8x4x8x4096x4096 1) : FVec Ideal S8x4x8x4096x4096 .f32 :=
  quot (expo mk (top (rowMax mk) sk) ok) (rowSum (expo mk (top (rowMax mk) sk) ok)) (top (rowMax mk) sk) sk

/-- The attention, as the reference forms it. -/
def REF (a0 : FVec Ideal S8x4096x2560 .f32) (a1 a2 : FVec Ideal S64 .f32) (a3 : FVec Ideal S32 .f32) : FVec Ideal S8x4096x2048 .bf16 :=
  combine a0 (weights (masked (prods (kn a0 a2) (qn a0 a1)) penalty validAll) (sinks a3) validAll)

/-- The reference's run ends with that array. -/
theorem run_is_REF (m : (ℓ : Loc nD τ sig) → Buf (Elt Ideal) ℓ) (c : Dev nD) :
    res_main_v88 m c = REF (m ((c : Thread nD τ).loc main_arg0)) (m ((c : Thread nD τ).loc main_arg1)) (m ((c : Thread nD τ).loc main_arg2))
      (m ((c : Thread nD τ).loc main_arg3)) := by
  unfold res_main_v88
  generalize m ((c : Thread nD τ).loc main_arg0) = a0
  generalize m ((c : Thread nD τ).loc main_arg1) = a1
  generalize m ((c : Thread nD τ).loc main_arg2) = a2
  generalize m ((c : Thread nD τ).loc main_arg3) = a3
  rfl

/-- A normalised key entry. -/
theorem kn_at (a0 : FVec Ideal S8x4096x2560 .f32) (a2 : FVec Ideal S64 .f32) (b : Fin 8) (t : Fin 4096) (g : Fin 4) (l : Fin 64) :
    kn a0 a2 (ix4 b t g l) = rms (fun d => a0 (ix3 b t ⟨2048 + (g.val * 64 + d.val), by omega⟩)) (fun d => a2 (ix1 d)) l := by
  unfold rms
  pointwise [kn]

/-- A normalised query entry. -/
theorem qn_at (a0 : FVec Ideal S8x4096x2560 .f32) (a1 : FVec Ideal S64 .f32) (b : Fin 8) (t : Fin 4096) (g : Fin 4) (r : Fin 8) (l : Fin 64) :
    qn a0 a1 (ix5 b t g r l) = rms (fun d => a0 (ix3 b t ⟨g.val * 512 + r.val * 64 + d.val, by omega⟩)) (fun d => a1 (ix1 d)) l := by
  unfold rms
  pointwise [qn]

/-- A product of a query and a key. -/
theorem prods_at (k : FVec Ideal S8x4096x4x64 .f32) (q : FVec Ideal S8x4096x4x8x64 .f32) (b : Fin 8) (g : Fin 4) (r : Fin 8) (t kk : Fin 4096) :
    prods k q (ix5 b g r t kk) = ∑ l : Fin 64, k (ix4 b kk g l) * q (ix5 b t g r l) := by
  pointwise [prods]

/-- A penalty. -/
theorem penalty_at (b : Fin 8) (g : Fin 4) (r : Fin 8) (t kk : Fin 4096) :
    penalty (ix5 b g r t kk) = refSlope ⟨g.val * 8 + r.val, by omega⟩ * sitofp (F := Ideal) .f32 dist (ix2 t kk) := by
  have h : S32.rowMajor (ix1 (⟨g.val * 8 + r.val, by omega⟩ : Fin 32)) = (⟨g.val * 8 + r.val, by omega⟩ : Fin 32) :=
    Fin.ext (Shape.rowMajor_val_one _)
  unfold refSlope
  rw [← h]
  pointwise [penalty, slopes]

/-- A head's sink. -/
theorem sinks_at (a3 : FVec Ideal S32 .f32) (b : Fin 8) (g : Fin 4) (r : Fin 8) (t : Fin 4096) :
    sinks a3 (ix5 b g r t 0) = a3 (ix1 ⟨g.val * 8 + r.val, by omega⟩) := by
  pointwise [sinks]

/-- A weighted sum of values, at a row and column. -/
theorem combine_at (a0 : FVec Ideal S8x4096x2560 .f32) (p : FVec Ideal S8x4x8x4096x4096 .f32) (b : Fin 8) (t : Fin 4096) (j : Fin 2048) :
    combine a0 p (ix3 b t j) = ∑ kk : Fin 4096, a0 (ix3 b kk ⟨2304 + (j.val / 512 * 64 + j.val % 64), by omega⟩)
      * p (ix5 b ⟨j.val / 512, by omega⟩ ⟨j.val / 64 % 8, by omega⟩ t kk) := by
  pointwise [combine]

/-- A masked score. -/
theorem masked_at (p pen : FVec Ideal S8x4x8x4096x4096 .f32) (b : Fin 8) (g : Fin 4) (r : Fin 8) (t k : Fin 4096) :
    masked p pen validAll (ix5 b g r t k) = Scalar.select (valid (ix2 t k))
      (p (ix5 b g r t k) * Ideal.ofBits .f32 0x3E000000#32 - pen (ix5 b g r t k)) (Ideal.ofBits .f32 0xFF800000#32) := by
  pointwise [masked, validAll]

/-- An exponential. -/
theorem expo_at (mk : FVec Ideal S8x4x8x4096x4096 .f32) (tp : FVec Ideal S8x4x8x4096x1 .f32) (b : Fin 8) (g : Fin 4) (r : Fin 8) (t k : Fin 4096) :
    expo mk tp validAll (ix5 b g r t k) = Scalar.select (valid (ix2 t k)) (Ideal.exp (mk (ix5 b g r t k) - tp (ix5 b g r t 0))) 0 := by
  pointwise [expo, validAll]

/-- The greatest along the last of five axes, whatever their sizes. -/
theorem last_max {n0 n1 n2 n3 n4 : Nat} {u : Shape} (x : (⟨5, ![n0, n1, n2, n3, n4]⟩ : Shape).Idx → Ideal .f32) (init : u.Idx → Ideal .f32)
    (h : (⟨5, ![n0, n1, n2, n3, n4]⟩ : Shape).ReducesTo [4] ⟨4, ![n0, n1, n2, n3]⟩) (hu : 0 < u.numel)
    (a : Fin n0) (b : Fin n1) (c : Fin n2) (d : Fin n3) :
    Host.reduce (FloatOps.maximumf (F := Ideal) (φ := .f32)) x init h hu (ix4 a b c d)
      = Finset.univ.fold (max : EReal → EReal → EReal) (init (Shape.Idx.first hu)) (fun k : Fin n4 => x (ix5 a b c d k)) := by
  rw [Host.reduce_eq_fold, h.fold_fiber_r5_a4]
  rfl

/-- The sum along the last of five axes, whatever their sizes. -/
theorem last_sum {n0 n1 n2 n3 n4 : Nat} {u : Shape} (x : FVec Ideal ⟨5, ![n0, n1, n2, n3, n4]⟩ .f32) (init : u.Idx → Ideal .f32)
    (h : (⟨5, ![n0, n1, n2, n3, n4]⟩ : Shape).ReducesTo [4] ⟨4, ![n0, n1, n2, n3]⟩) (hu : 0 < u.numel)
    (a : Fin n0) (b : Fin n1) (c : Fin n2) (d : Fin n3) :
    Host.reduceAdd x init h hu (ix4 a b c d) = init (Shape.Idx.first hu) + ∑ k : Fin n4, x (ix5 a b c d k) :=
  Ideal.hostReduceAdd_r5_a4 h x _ _

/-- A row's greatest entry. -/
theorem rowMax_at (mk : FVec Ideal S8x4x8x4096x4096 .f32) (b : Fin 8) (g : Fin 4) (r : Fin 8) (t : Fin 4096) :
    rowMax mk (ix4 b g r t) = Finset.univ.fold max (Ideal.ofBits .f32 0xFF800000#32) (fun k : Fin 4096 => mk (ix5 b g r t k)) := by
  unfold rowMax
  have h := last_max mk (constant S_ .f32 0xFF800000#32) reducesTo_S8x4x8x4096x4096_S8x4x8x4096_d4 h_S_ b g r t
  exact h

/-- A row's sum. -/
theorem rowSum_at (e : FVec Ideal S8x4x8x4096x4096 .f32) (b : Fin 8) (g : Fin 4) (r : Fin 8) (t : Fin 4096) :
    rowSum e (ix4 b g r t) = ∑ k : Fin 4096, e (ix5 b g r t k) := by
  unfold rowSum
  have h := last_sum e (constant S_ .f32 0x00000000#32) reducesTo_S8x4x8x4096x4096_S8x4x8x4096_d4 h_S_ b g r t
  refine h.trans ?_
  have h0 : (constant (F := Ideal) S_ .f32 0x00000000#32) (Shape.Idx.first h_S_) = (0 : EReal) := by pointwise
  rw [h0, zero_add]

/-- A row's greatest, its sink among them. -/
theorem top_at (mx : FVec Ideal S8x4x8x4096 .f32) (sk : FVec Ideal S8x4x8x4096x1 .f32) (b : Fin 8) (g : Fin 4) (r : Fin 8) (t : Fin 4096) :
    top mx sk (ix5 b g r t 0) = max (mx (ix4 b g r t)) (sk (ix5 b g r t 0)) := by
  pointwise [top]

/-- A weight. -/
theorem quot_at (e : FVec Ideal S8x4x8x4096x4096 .f32) (sm : FVec Ideal S8x4x8x4096 .f32) (tp sk : FVec Ideal S8x4x8x4096x1 .f32)
    (b : Fin 8) (g : Fin 4) (r : Fin 8) (t k : Fin 4096) :
    quot e sm tp sk (ix5 b g r t k) = Ideal.div (e (ix5 b g r t k))
      (max (sm (ix4 b g r t) + Ideal.exp (sk (ix5 b g r t 0) - tp (ix5 b g r t 0))) (Ideal.ofBits .f32 0x0DA24260#32)) := by
  pointwise [quot]

/-- A row's weights are those of its sinked softmax. -/
theorem weights_at (mk : FVec Ideal S8x4x8x4096x4096 .f32) (sk : FVec Ideal S8x4x8x4096x1 .f32) (b : Fin 8) (g : Fin 4) (r : Fin 8)
    (t kk : Fin 4096) (s : Fin 4096 → EReal) (hm : ∀ k, mk (ix5 b g r t k) = Soft.msk (fun k => valid (ix2 t k)) s k) :
    weights mk sk validAll (ix5 b g r t kk)
      = Ideal.div (Soft.expo (fun k => valid (ix2 t k)) s (sk (ix5 b g r t 0)) kk) (Soft.den (fun k => valid (ix2 t k)) s (sk (ix5 b g r t 0))) := by
  have ht : top (rowMax mk) sk (ix5 b g r t 0) = Soft.top (fun k => valid (ix2 t k)) s (sk (ix5 b g r t 0)) := by
    rw [top_at, rowMax_at]
    simp only [hm]
    rw [Soft.top]
  have he : ∀ k : Fin 4096, expo mk (top (rowMax mk) sk) validAll (ix5 b g r t k)
      = Soft.expo (fun k => valid (ix2 t k)) s (sk (ix5 b g r t 0)) k := fun k => by
    rw [expo_at, ht, hm, Soft.expo]
  rw [weights, quot_at, rowSum_at, ht, Soft.den]
  simp only [he]

/-- The score of a query and a key. -/
def score (a0 : FVec Ideal S8x4096x2560 .f32) (a1 a2 : FVec Ideal S64 .f32) (b : Fin 8) (g : Fin 4) (r : Fin 8) (t kk : Fin 4096) : EReal :=
  (∑ l : Fin 64, rms (fun d => a0 (ix3 b kk ⟨2048 + (g.val * 64 + d.val), by omega⟩)) (fun d => a2 (ix1 d)) l
      * rms (fun d => a0 (ix3 b t ⟨g.val * 512 + r.val * 64 + d.val, by omega⟩)) (fun d => a1 (ix1 d)) l) * Ideal.ofBits .f32 0x3E000000#32
    - refSlope ⟨g.val * 8 + r.val, by omega⟩ * sitofp (F := Ideal) .f32 dist (ix2 t kk)

/-- The reference's result at a row and column. -/
theorem ref_at (a0 : FVec Ideal S8x4096x2560 .f32) (a1 a2 : FVec Ideal S64 .f32) (a3 : FVec Ideal S32 .f32) (b : Fin 8) (t : Fin 4096) (j : Fin 2048) :
    REF a0 a1 a2 a3 (ix3 b t j) = Soft.att (fun kk => valid (ix2 t kk))
      (score a0 a1 a2 b ⟨j.val / 512, by omega⟩ ⟨j.val / 64 % 8, by omega⟩ t)
      (fun kk => a0 (ix3 b kk ⟨2304 + (j.val / 512 * 64 + j.val % 64), by omega⟩))
      (a3 (ix1 ⟨j.val / 512 * 8 + j.val / 64 % 8, by omega⟩)) := by
  unfold REF
  rw [combine_at]
  have hs : (score a0 a1 a2 b ⟨j.val / 512, by omega⟩ ⟨j.val / 64 % 8, by omega⟩ t) = fun k =>
      prods (kn a0 a2) (qn a0 a1) (ix5 b ⟨j.val / 512, by omega⟩ ⟨j.val / 64 % 8, by omega⟩ t k) * Ideal.ofBits .f32 0x3E000000#32
        - penalty (ix5 b ⟨j.val / 512, by omega⟩ ⟨j.val / 64 % 8, by omega⟩ t k) := by
    funext k
    rw [prods_at, penalty_at]
    simp only [kn_at, qn_at, score]
  rw [hs]
  unfold Soft.att
  refine Finset.sum_congr rfl fun kk _ => ?_
  rw [mul_comm, weights_at _ _ b _ _ t kk _ (fun k => (masked_at _ _ b _ _ t k).trans rfl), sinks_at]

end Cert.SwaRefIdeal.Value

end
-- ==== Proof.Swa.Slope.lean ====
/-
  The heads' slopes: what the call's names and words denote, and that they are the reference's, one over the fourth roots
  of the powers of two.
-/
module

public import proofs.«01_k».proof.Proof.Swa.Tile
public import proofs.«01_k».proof.Proof.Swa.Ref

@[expose] public section

noncomputable section

open Idealize.ShloMosaic

namespace Cert.SwaIdeal.Value
open Cert.SwaIdeal
open Cert.SwaRefIdeal (lit0)
open Cert.SwaRefIdeal.Value (refSlope)

/-- A number's fourth power has that number as its fourth root. -/
theorem root_four (x : ℝ) (h : 0 ≤ x) : Real.sqrt (Real.sqrt (x ^ 4)) = x := by
  rw [show x ^ 4 = (x ^ 2) ^ 2 by ring, Real.sqrt_sq (by positivity), Real.sqrt_sq h]

/-- A slope's real value. -/
def real (n : Nat) : ℝ := (Real.sqrt (Real.sqrt (2 ^ (n + 1))))⁻¹

/-- The powers of two the reference takes roots of. -/
theorem power (h : Fin 32) : Ideal.ofBits .f32 (lit0 h) = (((2 : ℝ) ^ (h.val + 1) : ℝ) : EReal) := by
  fin_cases h <;> simp [lit0, Ideal.ofBits, Ideal.ieee, -EReal.coe_mul, -EReal.coe_pow] <;> norm_num

/-- The word of one. -/
theorem one_word : Ideal.ofBits .f32 0x3F800000#32 = ((1 : ℝ) : EReal) := by
  simp [Ideal.ofBits, Ideal.ieee, -EReal.coe_mul]
  norm_num

/-- The reference's slope. -/
theorem ref_real (h : Fin 32) : refSlope h = ((real h.val : ℝ) : EReal) := by
  have h0 : (0 : ℝ) < 2 ^ (h.val + 1) := by positivity
  have h1 : Real.sqrt (Real.sqrt (2 ^ (h.val + 1))) ≠ 0 := by positivity
  rw [refSlope, power, one_word, Ideal.sqrt_coe, if_neg h0.not_gt, Ideal.sqrt_coe, if_neg (Real.sqrt_nonneg _).not_gt,
    Ideal.div_coe h1, ← EReal.coe_mul, real, one_mul, one_div]

/-- A named slope. -/
theorem named_real {name : String} {b : BitVec 32} {x : ℝ} {n : Nat}
    (hk : κ name = some (((Real.sqrt (Real.sqrt x))⁻¹ : ℝ) : EReal)) (hx : x = 2 ^ (n + 1)) :
    Named.named (F := Ideal) (φ := .f32) κ name b = ((real n : ℝ) : EReal) := by
  refine (IdealRules.named_const.ideal_named_scalar κ name (φ := .f32) b _ hk).trans ?_
  rw [real, hx]

/-- A slope that is a power of two. -/
theorem word_real {b : BitVec 32} (j : Nat) {n : Nat} (hb : Ideal.ofBits .f32 b = ((((2 : ℝ) ^ j)⁻¹ : ℝ) : EReal)) (hn : n + 1 = j * 4) :
    FloatOps.ofBits (F := Ideal) .f32 b = ((real n : ℝ) : EReal) := by
  refine hb.trans ?_
  rw [real, hn, pow_mul, root_four _ (by positivity)]

/-- The words of the first eight inverse powers of two. -/
theorem half_words : Ideal.ofBits .f32 0x3F000000#32 = ((((2 : ℝ) ^ 1)⁻¹ : ℝ) : EReal)
    ∧ Ideal.ofBits .f32 0x3E800000#32 = ((((2 : ℝ) ^ 2)⁻¹ : ℝ) : EReal)
    ∧ Ideal.ofBits .f32 0x3E000000#32 = ((((2 : ℝ) ^ 3)⁻¹ : ℝ) : EReal)
    ∧ Ideal.ofBits .f32 0x3D800000#32 = ((((2 : ℝ) ^ 4)⁻¹ : ℝ) : EReal)
    ∧ Ideal.ofBits .f32 0x3D000000#32 = ((((2 : ℝ) ^ 5)⁻¹ : ℝ) : EReal)
    ∧ Ideal.ofBits .f32 0x3C800000#32 = ((((2 : ℝ) ^ 6)⁻¹ : ℝ) : EReal)
    ∧ Ideal.ofBits .f32 0x3C000000#32 = ((((2 : ℝ) ^ 7)⁻¹ : ℝ) : EReal)
    ∧ Ideal.ofBits .f32 0x3B800000#32 = ((((2 : ℝ) ^ 8)⁻¹ : ℝ) : EReal) := by
  refine ⟨?_, ?_, ?_, ?_, ?_, ?_, ?_, ?_⟩ <;>
    (simp [Ideal.ofBits, Ideal.ieee, -EReal.coe_mul, -EReal.coe_pow]; try norm_num)

/-- The call's slope. -/
theorem call_real (h : Fin 32) : slope h = ((real h.val : ℝ) : EReal) := by
  obtain ⟨w1, w2, w3, w4, w5, w6, w7, w8⟩ := half_words
  fin_cases h
  case «3» => exact word_real 1 w1 rfl
  case «7» => exact word_real 2 w2 rfl
  case «11» => exact word_real 3 w3 rfl
  case «15» => exact word_real 4 w4 rfl
  case «19» => exact word_real 5 w5 rfl
  case «23» => exact word_real 6 w6 rfl
  case «27» => exact word_real 7 w7 rfl
  case «31» => exact word_real 8 w8 rfl
  all_goals exact named_real rfl (by norm_num)

/-- The two slopes are one. -/
theorem slope_same (h : Fin 32) : slope h = refSlope h := (call_real h).trans (ref_real h).symm

end Cert.SwaIdeal.Value

end
-- ==== Proof.Swa.Read.lean ====
/-
  The block's result at a row and a column: a sinked softmax over the block's 256 keys against a value column.
-/
module

public import proofs.«01_k».proof.Proof.Swa.Tile

@[expose] public section

set_option maxRecDepth 65536

noncomputable section

open Idealize.ShloMosaic Idealize.ShloMosaic.TcCoe Idealize.SL.Sem
open Idealize.ShloMosaic.Pipeline (Dat)

namespace Cert.SwaIdeal.Value
open Cert.SwaIdeal Cert.SwaIdeal.Gen
open Cert.Soft (rms)

/-- A normalised query entry. -/
theorem nrmQ_at (x : FVec Ideal S128x64 .f32) (g : FVec Ideal S1x64 .f32) (i : Fin 128) (d : Fin 64) :
    nrmQ x g (ix2 i d) = rms (fun l => x (ix2 i l)) (fun l => g (ix2 0 l)) d := by
  pointwise [nrmQ]
  rfl

/-- A normalised key entry. -/
theorem nrmK_at (x : FVec Ideal S256x64 .f32) (g : FVec Ideal S1x64 .f32) (i : Fin 256) (d : Fin 64) :
    nrmK x g (ix2 i d) = rms (fun l => x (ix2 i l)) (fun l => g (ix2 0 l)) d := by
  pointwise [nrmK]
  rfl

/-- A product of queries and keys at an index. -/
theorem dotS_at (a : FVec Ideal S1024x64 .bf16) (b : FVec Ideal S256x64 .bf16) (i : Fin 1024) (k : Fin 256) :
    matmul dot_S1024x64_S256x64_S1024x256_1_1_0_0_n_n none a b (constant S1024x256 .f32 0x00000000#32) (ix2 i k)
      = ∑ l : Fin 64, a (ix2 i l) * b (ix2 k l) := by
  pointwise

/-- A product of weights and values at an index. -/
theorem dotO_at (a : FVec Ideal S1024x256 .bf16) (b : FVec Ideal S256x64 .bf16) (i : Fin 1024) (d : Fin 64) :
    matmul dot_S1024x256_S256x64_S1024x64_1_0_0_1_n_n none a b (constant S1024x64 .f32 0x00000000#32) (ix2 i d)
      = ∑ k : Fin 256, a (ix2 i k) * b (ix2 k d) := by
  pointwise

/-- Row `i` of head `r` within a group's 1024 rows. -/
def row (r : Fin 8) (i : Fin 128) : Fin 1024 := ⟨128 * r.val + i.val, by omega⟩

/-- Eight heads' queries one below the other, at a head's row. -/
theorem pileQ (f : Fin 8 → FVec Ideal S128x64 .f32) (h) (r : Fin 8) (i : Fin 128) (d : Fin 64) :
    concatenate S1024x64 0 (List.ofFn fun r : Fin 8 => (⟨S128x64, f r⟩ : (s : Shape) × (s.Idx → Elt Ideal .f32))) h (ix2 (row r i) d)
      = f r (ix2 i d) := by
  have h1 : (128 * r.val + i.val) / 128 = r.val := by omega
  have h2 : i.val = (128 * r.val + i.val) % 128 := by omega
  refine concatenate_ofFn_apply 0 f h rfl 128 rfl (ix2 (row r i) d) r h1 (ix2 i d) h2 fun b hb => ?_
  match b, hb with
  | 0, hb => exact absurd rfl hb
  | 1, _ => rfl

/-- Eight heads' weights one below the other, at a head's row. -/
theorem pileP (f : Fin 8 → FVec Ideal S128x256 .f32) (h) (r : Fin 8) (i : Fin 128) (d : Fin 256) :
    concatenate S1024x256 0 (List.ofFn fun r : Fin 8 => (⟨S128x256, f r⟩ : (s : Shape) × (s.Idx → Elt Ideal .f32))) h (ix2 (row r i) d)
      = f r (ix2 i d) := by
  have h1 : (128 * r.val + i.val) / 128 = r.val := by omega
  have h2 : i.val = (128 * r.val + i.val) % 128 := by omega
  refine concatenate_ofFn_apply 0 f h rfl 128 rfl (ix2 (row r i) d) r h1 (ix2 i d) h2 fun b hb => ?_
  match b, hb with
  | 0, hb => exact absurd rfl hb
  | 1, _ => rfl

/-- The 32 heads' outputs side by side, at a column. -/
theorem rowO (f : Fin 32 → FVec Ideal S128x64 .f32) (h) (i : Fin 128) (j : Fin 2048) :
    concatenate S128x2048 1 (List.ofFn fun r : Fin 32 => (⟨S128x64, f r⟩ : (s : Shape) × (s.Idx → Elt Ideal .f32))) h (ix2 i j)
      = f ⟨j.val / 64, by omega⟩ (ix2 i ⟨j.val % 64, by omega⟩) := by
  refine concatenate_ofFn_apply 1 f h rfl 64 rfl (ix2 i j) ⟨j.val / 64, by omega⟩ rfl (ix2 i ⟨j.val % 64, by omega⟩) rfl fun b hb => ?_
  match b, hb with
  | 0, _ => rfl
  | 1, hb => exact absurd rfl hb

/-- The scaled product of a head's query row and a group's key row. -/
def dotAt (q : FVec Ideal S128x2048 .f32) (k : FVec Ideal S256x256 .f32) (qg kg : FVec Ideal S1x64 .f32) (g : Fin 4) (r : Fin 8)
    (i : Fin 128) (kk : Fin 256) : EReal :=
  ∑ l : Fin 64, rms (fun d => q (ix2 i ⟨64 * (8 * g.val + r.val) + d.val, by omega⟩)) (fun d => qg (ix2 0 d)) l
    * Ideal.ofBits .f32 0x3E000000#32
    * rms (fun d => k (ix2 kk ⟨64 * g.val + d.val, by omega⟩)) (fun d => kg (ix2 0 d)) l

/-- A head's score before the distance penalty. -/
theorem scores_at (q : FVec Ideal S128x2048 .f32) (k : FVec Ideal S256x256 .f32) (qg kg : FVec Ideal S1x64 .f32) (g : Fin 4) (r : Fin 8)
    (i : Fin 128) (kk : Fin 256) : scores q k qg kg g (ix2 (row r i) kk) = dotAt q k qg kg g r i kk := by
  unfold scores
  rw [dotS_at]
  refine Fin.sum_fin_congr fun l => Ideal.mul_congr ?_ ?_
  · refine Ideal.mul_congr ((pileQ _ _ r i l).trans ?_) rfl
    rw [nrmQ_at]
    pointwise
    rfl
  · refine (nrmK_at _ _ _ _).trans ?_
    pointwise

/-- Over the reals narrowing an array leaves its entries. -/
theorem narrow_at {s : Shape} (x : FVec Ideal s .f32) (h) (i : s.Idx) : truncf .bf16 x h i = x i := rfl

/-- The value named for a masked score is minus infinity. -/
theorem mask_value : Named.named (F := Ideal) (φ := .f32) κ "mask" 0xF149F2CA#32 = Ideal.ofBits .f32 0xFF800000#32 := by
  refine (IdealRules.named_const.ideal_named_scalar κ "mask" (φ := .f32) 0xF149F2CA#32 ⊥ rfl).trans ?_
  simp [Ideal.ofBits, Ideal.ieee]

/-- A head's weight of a key, times a value, summed over the keys. -/
theorem head_sum (s : FVec Ideal S128x256 .f32) (sl sink : Ideal .f32) (dist : FVec Ideal S128x256 .f32) (ok : IVec S128x256 1)
    (i : Fin 128) (v : Fin 256 → EReal) :
    ∑ k : Fin 256, head s sl sink dist ok (ix2 i k) * v k
      = Soft.att (fun k => ok (ix2 i k)) (fun k => s (ix2 i k) - sl * dist (ix2 i k)) v sink := by
  have hm : ∀ k : Fin 256, masked s sl dist ok (ix2 i k)
      = Soft.msk (fun k => ok (ix2 i k)) (fun k => s (ix2 i k) - sl * dist (ix2 i k)) k := fun k => by
    pointwise [masked]
    rw [mask_value]
    rfl
  have ht : top (masked s sl dist ok) sink (ix2 i 0)
      = Soft.top (fun k => ok (ix2 i k)) (fun k => s (ix2 i k) - sl * dist (ix2 i k)) sink := by
    unfold Soft.top
    simp only [← hm]
    pointwise [top]
  have he : ∀ k : Fin 256, expo (masked s sl dist ok) (top (masked s sl dist ok) sink) ok (ix2 i k)
      = Soft.expo (fun k => ok (ix2 i k)) (fun k => s (ix2 i k) - sl * dist (ix2 i k)) sink k := fun k => by
    unfold Soft.expo
    rw [← hm, ← ht]
    pointwise [expo]
  refine Fin.sum_fin_congr fun k => Ideal.mul_congr ?_ rfl
  unfold Soft.den
  simp only [← he, ← ht]
  unfold head
  pointwise [quot]

/-- A group's output at a head's row. -/
theorem mix_at (q : FVec Ideal S128x2048 .f32) (k v : FVec Ideal S256x256 .f32) (qg kg : FVec Ideal S1x64 .f32) (sk : Fin 32 → Ideal .f32)
    (dist : FVec Ideal S128x256 .f32) (ok : IVec S128x256 1) (g : Fin 4) (r : Fin 8) (i : Fin 128) (d : Fin 64) :
    mix q k v qg kg sk dist ok g (ix2 (row r i) d)
      = Soft.att (fun kk => ok (ix2 i kk)) (fun kk => dotAt q k qg kg g r i kk - slope (hd g r) * dist (ix2 i kk))
          (fun kk => v (ix2 kk ⟨64 * g.val + d.val, by omega⟩)) (sk (hd g r)) := by
  unfold mix
  rw [dotO_at]
  have hs : ∀ kk : Fin 256, extractStridedSlice S128x256 ![128 * r.val, 0] (scores q k qg kg g) (sliceS r) (ix2 i kk)
      = dotAt q k qg kg g r i kk := fun kk => by
    rw [← scores_at]
    pointwise
    rfl
  simp only [← hs]
  refine Eq.trans ?_ (head_sum (extractStridedSlice S128x256 ![128 * r.val, 0] (scores q k qg kg g) (sliceS r)) (slope (hd g r))
    (sk (hd g r)) dist ok i (fun kk => v (ix2 kk ⟨64 * g.val + d.val, by omega⟩)))
  refine Fin.sum_fin_congr fun kk => Ideal.mul_congr ?_ ?_
  · refine (narrow_at _ _ _).trans ?_
    have hp := pileP (fun r => head (extractStridedSlice S128x256 ![128 * r.val, 0] (scores q k qg kg g) (sliceS r)) (slope (hd g r))
      (sk (hd g r)) dist ok) concatenates_S128x256_S128x256_S128x256_S128x256_S128x256_S128x256_S128x256_S128x256_S1024x256_d0 r i kk
    exact hp
  · pointwise

/-- The block's result at a row and column. -/
theorem tile_at (q : FVec Ideal S128x2048 .f32) (k v : FVec Ideal S256x256 .f32) (qg kg : FVec Ideal S1x64 .f32) (sk : Fin 32 → Ideal .f32)
    (dist : FVec Ideal S128x256 .f32) (ok : IVec S128x256 1) (i : Fin 128) (j : Fin 2048) :
    tile q k v qg kg sk dist ok (ix2 i j)
      = Soft.att (fun kk => ok (ix2 i kk))
          (fun kk => dotAt q k qg kg ⟨j.val / 512, by omega⟩ ⟨j.val / 64 % 8, by omega⟩ i kk
            - slope ⟨j.val / 64, by omega⟩ * dist (ix2 i kk))
          (fun kk => v (ix2 kk ⟨64 * (j.val / 512) + j.val % 64, by omega⟩)) (sk ⟨j.val / 64, by omega⟩) := by
  have hg : (⟨j.val / 64 / 8, by omega⟩ : Fin 4) = ⟨j.val / 512, by omega⟩ := Fin.ext (by dsimp only; omega)
  have hh : hd ⟨j.val / 512, by omega⟩ ⟨j.val / 64 % 8, by omega⟩ = ⟨j.val / 64, by omega⟩ := Fin.ext (by dsimp only [hd]; omega)
  rw [← hh]
  refine Eq.trans ?_ (mix_at q k v qg kg sk dist ok ⟨j.val / 512, by omega⟩ ⟨j.val / 64 % 8, by omega⟩ i ⟨j.val % 64, by omega⟩)
  rw [← hg]
  unfold tile
  refine (rowO (fun h => extractStridedSlice S128x64 ![128 * (h.val % 8), 0] (mix q k v qg kg sk dist ok ⟨h.val / 8, by omega⟩)
    (sliceO ⟨h.val % 8, by omega⟩)) _ i j).trans ?_
  pointwise
  rfl

end Cert.SwaIdeal.Value

end
-- ==== Proof.Swa.Band.lean ====
/-
  The band of keys a query of the sliding-window attention keeps: which of a block's 256 keys the call keeps, which of the 4096
  keys the reference keeps, and that the two agree under the block's place in the sequence.
-/
module

public import proofs.«01_k».proof.Proof.Swa.Read
public import proofs.«01_k».proof.Proof.Swa.Ref
public import Idealize.ShloMosaic.Lib.WordCmp

@[expose] public section

set_option maxRecDepth 65536

noncomputable section

open Idealize.ShloMosaic Idealize.ShloMosaic.TcCoe Idealize.SL.Sem
open Idealize.ShloMosaic.Pipeline (Dat)

namespace Cert.SwaIdeal.Value
open Cert.SwaIdeal Cert.SwaIdeal.Gen
open Cert.SwaRefIdeal.Value (dist valid)

/-- Two bits that both hold. -/
theorem both (a b : BitVec 1) : IntOp.andi a b = 1#1 ↔ a = 1#1 ∧ b = 1#1 := by
  revert a b
  decide

/-- A signed comparison that holds. -/
theorem ge_one (a b : BitVec 32) : IntOp.cmpi .sge a b = 1#1 ↔ b.toInt ≤ a.toInt := by
  have h : IntOp.cmpi .sge a b = BitVec.ofBool (decide (b.toInt ≤ a.toInt)) := rfl
  rw [h]
  by_cases hc : b.toInt ≤ a.toInt <;> simp [hc]

/-- A strict signed comparison that holds. -/
theorem lt_one (a b : BitVec 32) : IntOp.cmpi .slt a b = 1#1 ↔ a.toInt < b.toInt := by
  have h : IntOp.cmpi .slt a b = BitVec.ofBool (decide (a.toInt < b.toInt)) := rfl
  rw [h]
  by_cases hc : a.toInt < b.toInt <;> simp [hc]

/-- A small number as a word, read signed. -/
theorem small_word (n : Nat) (h : n < 100000) : (BitVec.ofNat 32 n).toInt = n := by
  rw [BitVec.toInt_eq_toNat_cond, BitVec.toNat_ofNat]
  split <;> omega

/-- The first key's place of a block's 256, as a word read signed. -/
theorem place_word (n k : Nat) (hn : n < 32) (hk : k < 256) :
    (BitVec.ofNat 32 n * 128#32 - 128#32 + BitVec.ofNat 32 k).toInt = (n : Int) * 128 - 128 + k := by
  simp [BitVec.toInt_sub, BitVec.toInt_add, BitVec.toInt_mul, small_word n (by omega), small_word k (by omega)]
  rw [Int.bmod_def]
  split <;> omega

/-- The distance between a block's query and key, as a word read signed. -/
theorem dist_word (n i k : Nat) (hn : n < 32) (hi : i < 128) (hk : k < 256) :
    (BitVec.ofNat 32 n * 128#32 + BitVec.ofNat 32 i - (BitVec.ofNat 32 n * 128#32 - 128#32 + BitVec.ofNat 32 k)).toInt = 128 + (i : Int) - k := by
  simp [BitVec.toInt_sub, BitVec.toInt_add, BitVec.toInt_mul, small_word n (by omega), small_word i (by omega), small_word k (by omega)]
  rw [Int.bmod_def]
  split <;> omega

/-- The distance between any two rows, as a word read signed. -/
theorem row_word (t k : Nat) (ht : t < 4096) (hk : k < 4096) : (BitVec.ofNat 32 t - BitVec.ofNat 32 k).toInt = (t : Int) - k := by
  simp [BitVec.toInt_sub, small_word t (by omega), small_word k (by omega)]
  rw [Int.bmod_def]
  split <;> omega

/-- The reference's distance. -/
theorem ref_dist (t k : Fin 4096) : (dist (ix2 t k)).toInt = (t.val : Int) - k.val := by
  have h : dist (ix2 t k) = BitVec.ofNat 32 t.val - BitVec.ofNat 32 k.val := by
    pointwise [Cert.SwaRefIdeal.Value.dist]
    rfl
  rw [h]
  exact row_word _ _ t.isLt k.isLt

/-- The reference keeps a query's own key and the 127 before it. -/
theorem ref_valid (t k : Fin 4096) : valid (ix2 t k) = 1#1 ↔ k.val ≤ t.val ∧ t.val < k.val + 128 := by
  have h : valid (ix2 t k) = IntOp.andi (IntOp.cmpi .sge (dist (ix2 t k)) 0#32) (IntOp.cmpi .slt (dist (ix2 t k)) 128#32) := by
    pointwise [Cert.SwaRefIdeal.Value.valid]
  rw [h, both, ge_one, lt_one, ref_dist]
  have h0 : (0#32).toInt = 0 := by decide
  have h1 : (128#32).toInt = 128 := by decide
  rw [h0, h1]
  omega

/-- The call's distance. -/
theorem blk_dist (x : grid0.Coords) (i : Fin 128) (k : Fin 256) (hx : (x 1).val < 32) : (k0_pay6 x (ix2 i k)).toInt = 128 + (i.val : Int) - k.val := by
  have h : k0_pay6 x (ix2 i k) = BitVec.ofNat 32 (x 1).val * 128#32 + BitVec.ofNat 32 i.val
      - (BitVec.ofNat 32 (x 1).val * 128#32 - 128#32 + BitVec.ofNat 32 k.val) := by
    pointwise [k0_pay6, k0_pay5]
    rfl
  rw [h]
  exact dist_word _ _ _ hx i.isLt k.isLt

/-- The call keeps the same keys, of those its block holds. -/
theorem blk_valid (x : grid0.Coords) (i : Fin 128) (k : Fin 256) (hx : (x 1).val < 32) :
    k0_pay8 x (ix2 i k) = 1#1 ↔ k.val ≤ 128 + i.val ∧ i.val < k.val ∧ 128 ≤ 128 * (x 1).val + k.val := by
  have hp : (k0_pay5 x (ix2 0 k)).toInt = ((x 1).val : Int) * 128 - 128 + k.val := by
    have h : k0_pay5 x (ix2 0 k) = BitVec.ofNat 32 (x 1).val * 128#32 - 128#32 + BitVec.ofNat 32 k.val := by
      pointwise [k0_pay5]
      rfl
    rw [h]
    exact place_word _ _ hx k.isLt
  have h : k0_pay8 x (ix2 i k) = IntOp.andi (IntOp.andi (IntOp.cmpi .sge (k0_pay6 x (ix2 i k)) 0#32) (IntOp.cmpi .slt (k0_pay6 x (ix2 i k)) 128#32))
      (IntOp.cmpi .sge (k0_pay5 x (ix2 0 k)) 0#32) := by
    pointwise [k0_pay8]
  rw [h, both, both, ge_one, lt_one, ge_one, blk_dist x i k hx, hp]
  have h0 : (0#32).toInt = 0 := by decide
  have h1 : (128#32).toInt = 128 := by decide
  rw [h0, h1]
  omega

/-- Where the block's key lies in the sequence, the two distances are one word. -/
theorem dist_same (x : grid0.Coords) (i : Fin 128) (k : Fin 256) (hx : (x 1).val < 32) (t j : Fin 4096) (ht : t.val = 128 * (x 1).val + i.val)
    (hj : j.val + 128 = 128 * (x 1).val + k.val) : k0_pay6 x (ix2 i k) = dist (ix2 t j) := by
  apply BitVec.eq_of_toInt_eq
  rw [blk_dist x i k hx, ref_dist]
  omega

end Cert.SwaIdeal.Value

end
-- ==== Proof.Swa.Blocks.lean ====
/-
  The blocks the sliding-window attention reads at a grid point, as entries of its arguments.
-/
module

public import proofs.«01_k».proof.Proof.Swa.Band

@[expose] public section

set_option maxRecDepth 65536

noncomputable section

open Idealize.ShloMosaic Idealize.ShloMosaic.TcCoe Idealize.SL.Sem
open Idealize.ShloMosaic.Pipeline (Dat)

namespace Cert.SwaIdeal.Value
open Cert.SwaIdeal Cert.SwaIdeal.Gen

/-- Where every window's block lies at a grid point. -/
theorem idx : ∀ t : Fin cfg0.N, win0_0.index t = ![0] ∧ win0_1.index t = ![t.val / 32, t.val % 32, 0]
    ∧ win0_2.index t = ![t.val / 32, t.val % 32 - 1, 8] ∧ win0_3.index t = ![t.val / 32, t.val % 32, 8]
    ∧ win0_4.index t = ![t.val / 32, t.val % 32 - 1, 9] ∧ win0_5.index t = ![t.val / 32, t.val % 32, 9]
    ∧ win0_6.index t = ![0, 0] ∧ win0_7.index t = ![0, 0] ∧ win0_8.index t = ![t.val / 32, t.val % 32, 0] :=
  (by decide +kernel : ∀ t : Fin grid0.N, _)

/-- The query block's place in its sequence. -/
theorem coord : ∀ t : Fin cfg0.N, ((grid0.coords t) 1).val = t.val % 32 :=
  (by decide +kernel : ∀ t : Fin grid0.N, _)

/-- Two blocks of key rows, one below the other. -/
theorem pay3_at (a b : FVec Ideal S1x128x256 .f32) (k : Fin 256) (d : Fin 256) :
    k0_pay3 (F := Ideal) a b (ix2 k d) = if h : k.val < 128 then a (ix3 0 ⟨k.val, h⟩ d) else b (ix3 0 ⟨k.val - 128, by omega⟩ d) := by
  pointwise [k0_pay3]

variable (m : (ℓ : Loc nD τ sig) → Buf (Elt Ideal) ℓ)

/-- A query entry. -/
theorem q_at (c : Dev nD) (t : Fin cfg0.N) (i : Fin 128) (d : Fin 2048) (b : Fin 8) (r : Fin 4096) (hb : b.val = t.val / 32) (hr : r.val = 128 * (t.val % 32) + i.val) :
    k0_pay2 (F := Ideal) (X0_1 m c t) (ix2 i d) = m ((c : Thread nD τ).loc main_arg0) (ix3 b r ⟨d.val, by omega⟩) := by
  pointwise [k0_pay2]
  unfold X0_1 Pipeline.Window.fill
  rw [dif_pos (moved0_1 t _)]
  blk_ext [iblk, V, idx t]

/-- A key entry of the block before. -/
theorem kp_at (c : Dev nD) (t : Fin cfg0.N) (i : Fin 128) (d : Fin 256) (b : Fin 8) (r : Fin 4096) (hb : b.val = t.val / 32) (hr : r.val = 128 * (t.val % 32 - 1) + i.val) :
    iblk m c 2 t (ix3 0 i d) = m ((c : Thread nD τ).loc main_arg0) (ix3 b r ⟨2048 + d.val, by omega⟩) := by
  blk_ext [iblk, V, idx t]

/-- A key entry of the block itself. -/
theorem kc_at (c : Dev nD) (t : Fin cfg0.N) (i : Fin 128) (d : Fin 256) (b : Fin 8) (r : Fin 4096) (hb : b.val = t.val / 32) (hr : r.val = 128 * (t.val % 32) + i.val) :
    iblk m c 3 t (ix3 0 i d) = m ((c : Thread nD τ).loc main_arg0) (ix3 b r ⟨2048 + d.val, by omega⟩) := by
  blk_ext [iblk, V, idx t]

/-- A value entry of the block before. -/
theorem vp_at (c : Dev nD) (t : Fin cfg0.N) (i : Fin 128) (d : Fin 256) (b : Fin 8) (r : Fin 4096) (hb : b.val = t.val / 32) (hr : r.val = 128 * (t.val % 32 - 1) + i.val) :
    iblk m c 4 t (ix3 0 i d) = m ((c : Thread nD τ).loc main_arg0) (ix3 b r ⟨2304 + d.val, by omega⟩) := by
  blk_ext [iblk, V, idx t]

/-- A value entry of the block itself. -/
theorem vc_at (c : Dev nD) (t : Fin cfg0.N) (i : Fin 128) (d : Fin 256) (b : Fin 8) (r : Fin 4096) (hb : b.val = t.val / 32) (hr : r.val = 128 * (t.val % 32) + i.val) :
    iblk m c 5 t (ix3 0 i d) = m ((c : Thread nD τ).loc main_arg0) (ix3 b r ⟨2304 + d.val, by omega⟩) := by
  blk_ext [iblk, V, idx t]

/-- A key entry of the block's 256 rows, where the row lies within the sequence. -/
theorem k_at (c : Dev nD) (t : Fin cfg0.N) (k : Fin 256) (d : Fin 256) (b : Fin 8) (r : Fin 4096) (hb : b.val = t.val / 32)
    (hr : r.val + 128 = 128 * (t.val % 32) + k.val) :
    k0_pay3 (F := Ideal) (iblk m c 2 t) (iblk m c 3 t) (ix2 k d) = m ((c : Thread nD τ).loc main_arg0) (ix3 b r ⟨2048 + d.val, by omega⟩) := by
  rw [pay3_at]
  split
  · exact kp_at m c t _ d b r hb (by dsimp only; omega)
  · exact kc_at m c t _ d b r hb (by dsimp only; omega)

/-- A value entry of the block's 256 rows, where the row lies within the sequence. -/
theorem v_at (c : Dev nD) (t : Fin cfg0.N) (k : Fin 256) (d : Fin 256) (b : Fin 8) (r : Fin 4096) (hb : b.val = t.val / 32)
    (hr : r.val + 128 = 128 * (t.val % 32) + k.val) :
    k0_pay4 (F := Ideal) (iblk m c 4 t) (iblk m c 5 t) (ix2 k d) = m ((c : Thread nD τ).loc main_arg0) (ix3 b r ⟨2304 + d.val, by omega⟩) := by
  refine (pay3_at (iblk m c 4 t) (iblk m c 5 t) k d).trans ?_
  split
  · exact vp_at m c t _ d b r hb (by dsimp only; omega)
  · exact vc_at m c t _ d b r hb (by dsimp only; omega)

/-- The query gains as the call receives them. -/
theorem V_qg (c : Dev nD) : V m c main_v0 = shapeCast S1x64 (m ((c : Thread nD τ).loc main_arg1)) shapeCasts_S64_S1x64 := rfl

/-- The key gains as the call receives them. -/
theorem V_kg (c : Dev nD) : V m c main_v1 = shapeCast S1x64 (m ((c : Thread nD τ).loc main_arg2)) shapeCasts_S64_S1x64 := rfl

/-- A gain row read as a vector. -/
theorem gain_at (x : FVec Ideal S64 .f32) (d : Fin 64) : shapeCast S1x64 x shapeCasts_S64_S1x64 (ix2 0 d) = x (ix1 d) := by
  pointwise

/-- A query gain. -/
theorem qg_at (c : Dev nD) (t : Fin cfg0.N) (d : Fin 64) :
    iblk m c 6 t (ix2 0 d) = m ((c : Thread nD τ).loc main_arg1) (ix1 d) := by
  refine Eq.trans ?_ (gain_at _ d)
  rw [← V_qg]
  blk_ext [iblk, idx t]

/-- A key gain. -/
theorem kg_at (c : Dev nD) (t : Fin cfg0.N) (d : Fin 64) :
    iblk m c 7 t (ix2 0 d) = m ((c : Thread nD τ).loc main_arg2) (ix1 d) := by
  refine Eq.trans ?_ (gain_at _ d)
  rw [← V_kg]
  blk_ext [iblk, idx t]

/-- A head's sink. -/
theorem sink_at (c : Dev nD) (t : Fin cfg0.N) (h : Fin 32) :
    sinkAt (iblk m c 0 t) h = m ((c : Thread nD τ).loc main_arg3) (ix1 h) := by
  unfold sinkAt
  blk_ext [iblk, V, idx t]
  rfl

end Cert.SwaIdeal.Value

end
-- ==== Proof.Swa.Value.lean ====
/-
  The sliding-window attention: every block of the call's result is the reference's attention there, the block's 256 keys
  holding every key the reference's mask keeps.
-/
module

public import proofs.«01_k».proof.Proof.Swa.Slope
public import proofs.«01_k».proof.Proof.Swa.Blocks
public import proofs.«01_k».proof.Proof.Gen.Swa.Frame
public import proofs.«01_k».proof.Defs
public import Idealize.ShloMosaic.Lib.Claim

@[expose] public section

set_option maxRecDepth 65536

noncomputable section

open Idealize.ShloMosaic Idealize.ShloMosaic.TcCoe Idealize.SL.Sem
open Idealize.ShloMosaic.Pipeline (Dat)

namespace Cert.SwaIdeal.Value
open Cert.SwaIdeal Cert.SwaIdeal.Gen
open Cert.Soft (rms)
open Cert.SwaRefIdeal.Value (REF ref_at score dist valid run_is_REF)

variable (m : (ℓ : Loc nD τ sig) → Buf (Elt Ideal) ℓ)

/-- A kept key's score is the reference's. -/
theorem score_same (c : Dev nD) (t : Fin cfg0.N) (i : Fin 128) (j : Fin 2048) (k : Fin 256) (b : Fin 8) (r s : Fin 4096) (hb : b.val = t.val / 32)
    (hr : r.val = 128 * (t.val % 32) + i.val) (hs : s.val + 128 = 128 * (t.val % 32) + k.val) :
    dotAt (k0_pay2 (X0_1 m c t)) (k0_pay3 (iblk m c 2 t) (iblk m c 3 t)) (iblk m c 6 t) (iblk m c 7 t) ⟨j.val / 512, by omega⟩ ⟨j.val / 64 % 8, by omega⟩ i k
        - slope ⟨j.val / 64, by omega⟩ * k0_pay7 (F := Ideal) (grid0.coords t) (ix2 i k)
      = score (m ((c : Thread nD τ).loc main_arg0)) (m ((c : Thread nD τ).loc main_arg1)) (m ((c : Thread nD τ).loc main_arg2)) b
          ⟨j.val / 512, by omega⟩ ⟨j.val / 64 % 8, by omega⟩ r s := by
  have hd : k0_pay7 (F := Ideal) (grid0.coords t) (ix2 i k) = sitofp (F := Ideal) .f32 dist (ix2 r s) :=
    congrArg (FloatOps.sitofp (F := Ideal) .f32)
      (dist_same (grid0.coords t) i k (by rw [coord]; omega) r s (by rw [coord]; exact hr) (by rw [coord]; exact hs))
  have hh : (⟨j.val / 64, by omega⟩ : Fin 32) = ⟨j.val / 512 * 8 + j.val / 64 % 8, by omega⟩ := Fin.ext (by dsimp only; omega)
  have hq : ∀ d : Fin 64, k0_pay2 (F := Ideal) (X0_1 m c t) (ix2 i ⟨64 * (8 * (j.val / 512) + j.val / 64 % 8) + d.val, by omega⟩)
      = m ((c : Thread nD τ).loc main_arg0) (ix3 b r ⟨j.val / 512 * 512 + j.val / 64 % 8 * 64 + d.val, by omega⟩) := fun d =>
    (q_at m c t i _ b r hb hr).trans (congrArg (fun z => m ((c : Thread nD τ).loc main_arg0) (ix3 b r z)) (Fin.ext (by dsimp only; omega)))
  have hk : ∀ d : Fin 64, k0_pay3 (F := Ideal) (iblk m c 2 t) (iblk m c 3 t) (ix2 k ⟨64 * (j.val / 512) + d.val, by omega⟩)
      = m ((c : Thread nD τ).loc main_arg0) (ix3 b s ⟨2048 + (j.val / 512 * 64 + d.val), by omega⟩) := fun d =>
    (k_at m c t k _ b s hb hs).trans (congrArg (fun z => m ((c : Thread nD τ).loc main_arg0) (ix3 b s z)) (Fin.ext (by dsimp only; omega)))
  unfold dotAt score
  rw [Soft.score_scaled, hd, hh, slope_same]
  simp only [hq, hk, qg_at, kg_at]

/-- A block's result at a row and column is the reference's there. -/
theorem tile_ref (c : Dev nD) (t : Fin cfg0.N) (i : Fin 128) (j : Fin 2048) (b : Fin 8) (r : Fin 4096) (hb : b.val = t.val / 32)
    (hr : r.val = 128 * (t.val % 32) + i.val) :
    tile (k0_pay2 (X0_1 m c t)) (k0_pay3 (iblk m c 2 t) (iblk m c 3 t)) (k0_pay4 (iblk m c 4 t) (iblk m c 5 t))
        (iblk m c 6 t) (iblk m c 7 t) (sinkAt (iblk m c 0 t)) (k0_pay7 (grid0.coords t)) (k0_pay8 (grid0.coords t)) (ix2 i j)
      = REF (m ((c : Thread nD τ).loc main_arg0)) (m ((c : Thread nD τ).loc main_arg1)) (m ((c : Thread nD τ).loc main_arg2))
          (m ((c : Thread nD τ).loc main_arg3)) (ix3 b r j) := by
  have hx : ((grid0.coords t) 1).val < 32 := by rw [coord]; omega
  have hh : (⟨j.val / 64, by omega⟩ : Fin 32) = ⟨j.val / 512 * 8 + j.val / 64 % 8, by omega⟩ := Fin.ext (by dsimp only; omega)
  rw [tile_at, ref_at, sink_at, ← hh]
  refine Soft.att_kept (fun k => (⟨128 * (t.val % 32) + k.val - 128, by omega⟩ : Fin 4096)) ?_ ?_ ?_ ?_ ?_ _
  · intro k hk
    rw [blk_valid _ _ _ hx, coord] at hk
    obtain ⟨h1, h2, h3⟩ := hk
    have hs : (⟨128 * (t.val % 32) + k.val - 128, by omega⟩ : Fin 4096).val + 128 = 128 * (t.val % 32) + k.val := Nat.sub_add_cancel h3
    beta_reduce
    generalize (⟨128 * (t.val % 32) + k.val - 128, by omega⟩ : Fin 4096) = s at hs ⊢
    refine ⟨(ref_valid _ _).2 (by omega), (score_same m c t i j k b r s hb hr hs).symm, ?_⟩
    refine Eq.trans ?_ (v_at m c t k _ b s hb hs).symm
    exact congrArg (fun z => m ((c : Thread nD τ).loc main_arg0) (ix3 b _ z)) (Fin.ext (by dsimp only; omega))
  · intro k l hk hl h
    rw [blk_valid _ _ _ hx, coord] at hk hl
    have := congrArg Fin.val h
    exact Fin.ext (by dsimp only at this; omega)
  · intro s hs
    rw [ref_valid] at hs
    refine ⟨⟨s.val + 128 - 128 * (t.val % 32), by omega⟩, ?_, Fin.ext (by dsimp only; omega)⟩
    rw [blk_valid _ _ _ hx, coord]
    dsimp only
    omega
  · refine ⟨0, fun h => ?_⟩
    rw [blk_valid _ _ _ hx] at h
    exact absurd h.2.1 (Nat.not_lt_zero _)
  · by_cases h : r.val = 4095
    · refine ⟨0, fun hv => ?_⟩
      rw [ref_valid] at hv
      have h2 : r.val < 0 + 128 := hv.2
      omega
    · refine ⟨⟨4095, by omega⟩, fun hv => ?_⟩
      rw [ref_valid] at hv
      dsimp only at hv
      omega

/-- What the call stores of a block, at an index. -/
theorem pay_at (x : FVec Ideal S128x2048 .f32) (y : S1x128x2048.Idx) : k0_pay1 (F := Ideal) x y = x (ix2 (y 1) (y 2)) := by
  pointwise [k0_pay1]

/-- The result array after the run is the reference's attention of the call's arguments. -/
theorem final (c : Dev nD) : (dats m 0 c).arrAt 8 (cfgs 0).N
    = REF (m ((c : Thread nD τ).loc main_arg0)) (m ((c : Thread nD τ).loc main_arg1)) (m ((c : Thread nD τ).loc main_arg2))
        (m ((c : Thread nD τ).loc main_arg3)) := by
  refine (dats m 0 c).arrAt_eq_of_covers 8 _ (by decide +kernel) fun t hf y => ?_
  blk_simp
  rw [after0_8, opened]
  have ht : t.val < 256 := t.isLt
  have hy : (y 1).val < 128 := (y 1).isLt
  refine (pay_at _ _).trans ((tile_ref m c t (y 1) (y 2) ⟨t.val / 32, by omega⟩ ⟨128 * (t.val % 32) + (y 1).val, by omega⟩ rfl rfl).trans ?_)
  blk_ext [idx t]

/-- The call with its own words ends without fault, its arguments unchanged and its counters at zero. -/
theorem frame_words : @Cert.quiescent_Swa Cert.Swa.Gen.facts := fun m g _ => Cert.Swa.Gen.frame m g

/-- The call over the reals ends without fault, its arguments unchanged and its counters at zero. -/
theorem frame_ideal : @Cert.quiescent_SwaIdeal Cert.SwaIdeal.Gen.facts := fun m g _ => Cert.SwaIdeal.Gen.frame m g

/-- The reference ends without fault, its arguments unchanged and its counters at zero. -/
theorem frame_ref : @Cert.quiescent_SwaRefIdeal Cert.SwaRefIdeal.Gen.facts := fun m g _ =>
  (θ_run Cert.SwaRefIdeal.defs _ _).mono (fun r h => ⟨fun c => (h c).2, sem_eq_zero_of_no_sems (by decide) r.2⟩)
    (Cert.SwaRefIdeal.Value.run m g)

/-- The names stand for the reals they were computed from. -/
theorem names : Cert.preserves_Swa_SwaIdeal := by
  refine ⟨?_, ?_, ?_, ?_, ?_, ?_, ?_, ?_, ?_, ?_, ?_, ?_, ?_, ?_, ?_, ?_, ?_, ?_, ?_, ?_, ?_, ?_, ?_, ?_, ?_⟩ <;>
    exact IdealRules.named_const.statement _ _ _ _ _ rfl

/-- The call and the reference compute the same function over the reals. -/
theorem value : @Cert.algebraic_SwaIdeal_SwaRefIdeal Cert.SwaIdeal.Gen.facts Cert.SwaRefIdeal.Gen.facts := by
  intro m g m' g' _ hagree
  refine ⟨fun c => (dats m 0 c).arrAt 8 (cfgs 0).N, ?_, ?_⟩
  · exact (θ_run Cert.SwaIdeal.defs _ _).mono (fun r h c => ⟨(h.1 c).1 8, h.2.1 c⟩)
      (θ_run_and (Cert.SwaIdeal.Gen.run_main m g) (Cert.SwaIdeal.Gen.frame m g))
  · refine (θ_run Cert.SwaRefIdeal.defs _ _).mono (fun r h c => ⟨(h c).1.trans ?_, (h c).2⟩) (Cert.SwaRefIdeal.Value.run m' g')
    obtain ⟨h0, h1, h2, h3⟩ := hagree c
    refine Eq.trans ?_ (final m c).symm
    rw [← h0, ← h1, ← h2, ← h3]
    exact run_is_REF m' c

end Cert.SwaIdeal.Value

end
-- ==== Proof.lean ====
/-
  The certificate's claim, put together: the frames and values of the grouped and the dense feed-forward call,
  of the mixers' input projections and of their output projection, and of the sliding-window attention.
-/
module

public import proofs.«01_k».proof.Defs
public import proofs.«01_k».proof.Proof.Gen.Moe
public import proofs.«01_k».proof.Proof.Gen.Moe.Skeleton
public import proofs.«01_k».proof.Proof.Gen.Moe.Launch
public import proofs.«01_k».proof.Proof.Gen.Moe.Points
public import proofs.«01_k».proof.Proof.Gen.Moe.Frame
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeIdeal.Points
public import proofs.«01_k».proof.Proof.Gen.MoeIdeal.Frame
public import proofs.«01_k».proof.Proof.Gen.MoeRefIdeal
public import proofs.«01_k».proof.Proof.Gen.Dense
public import proofs.«01_k».proof.Proof.Gen.Dense.Skeleton
public import proofs.«01_k».proof.Proof.Gen.Dense.Launch
public import proofs.«01_k».proof.Proof.Gen.Dense.Points
public import proofs.«01_k».proof.Proof.Gen.Dense.Frame
public import proofs.«01_k».proof.Proof.Gen.DenseIdeal
public import proofs.«01_k».proof.Proof.Gen.DenseIdeal.Skeleton
public import proofs.«01_k».proof.Proof.Gen.DenseIdeal.Launch
public import proofs.«01_k».proof.Proof.Gen.DenseIdeal.Points
public import proofs.«01_k».proof.Proof.Gen.DenseIdeal.Frame
public import proofs.«01_k».proof.Proof.Gen.DenseRefIdeal
public import proofs.«01_k».proof.Proof.Gen.MoeRefIdeal.Run
public import proofs.«01_k».proof.Proof.Gen.DenseRefIdeal.Run
public import proofs.«01_k».proof.Proof.Gen.Pre_experts_exist
public import proofs.«01_k».proof.Proof.Gen.HgrnProj
public import proofs.«01_k».proof.Proof.Gen.HgrnProj.Frame
public import proofs.«01_k».proof.Proof.Gen.HgrnProjIdeal
public import proofs.«01_k».proof.Proof.Gen.HgrnProjIdeal.Frame
public import proofs.«01_k».proof.Proof.Gen.HgrnProjRefIdeal
public import proofs.«01_k».proof.Proof.Gen.HgrnProjRefIdeal.Run
public import proofs.«01_k».proof.Proof.Gen.SwaProj
public import proofs.«01_k».proof.Proof.Gen.SwaProj.Frame
public import proofs.«01_k».proof.Proof.Gen.SwaProjIdeal
public import proofs.«01_k».proof.Proof.Gen.SwaProjIdeal.Frame
public import proofs.«01_k».proof.Proof.Gen.SwaProjRefIdeal
public import proofs.«01_k».proof.Proof.Gen.SwaProjRefIdeal.Run
public import proofs.«01_k».proof.Proof.Gen.NsaProj
public import proofs.«01_k».proof.Proof.Gen.NsaProj.Frame
public import proofs.«01_k».proof.Proof.Gen.NsaProjIdeal
public import proofs.«01_k».proof.Proof.Gen.NsaProjIdeal.Frame
public import proofs.«01_k».proof.Proof.Gen.NsaProjRefIdeal
public import proofs.«01_k».proof.Proof.Gen.NsaProjRefIdeal.Run
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutRefIdeal
public import proofs.«01_k».proof.Proof.Gen.OutRefIdeal.Run
public import proofs.«01_k».proof.Proof.Gen.Swa
public import proofs.«01_k».proof.Proof.Gen.Swa.Frame
public import proofs.«01_k».proof.Proof.Gen.SwaIdeal
public import proofs.«01_k».proof.Proof.Gen.SwaIdeal.Frame
public import proofs.«01_k».proof.Proof.Gen.SwaRefIdeal
public import proofs.«01_k».proof.Proof.Gen.SwaRefIdeal.Run
public import proofs.«01_k».proof.Proof.Moe.Claims
public import proofs.«01_k».proof.Proof.Dense.Claims
public import proofs.«01_k».proof.Proof.Proj.HgrnProj
public import proofs.«01_k».proof.Proof.Proj.SwaProj
public import proofs.«01_k».proof.Proof.Proj.NsaProj
public import proofs.«01_k».proof.Proof.Proj.Out
public import proofs.«01_k».proof.Proof.Swa.Value
public import Idealize.ShloMosaic.Adequacy
public import Idealize.ShloMosaic.Init

@[expose] public section

noncomputable section

namespace Cert.Proof

open Idealize.ShloMosaic Idealize.SL.Sem Cert.Moe

theorem claim : Cert.Claim := ⟨Cert.Moe.Gen.facts, Cert.MoeIdeal.Gen.facts, Cert.MoeRefIdeal.Gen.facts, Cert.Dense.Gen.facts, Cert.DenseIdeal.Gen.facts, Cert.DenseRefIdeal.Gen.facts, Cert.HgrnProj.Gen.facts, Cert.HgrnProjIdeal.Gen.facts, Cert.HgrnProjRefIdeal.Gen.facts, Cert.SwaProj.Gen.facts, Cert.SwaProjIdeal.Gen.facts, Cert.SwaProjRefIdeal.Gen.facts, Cert.NsaProj.Gen.facts, Cert.NsaProjIdeal.Gen.facts, Cert.NsaProjRefIdeal.Gen.facts, Cert.Out.Gen.facts, Cert.OutIdeal.Gen.facts, Cert.OutRefIdeal.Gen.facts, Cert.Swa.Gen.facts, Cert.SwaIdeal.Gen.facts, Cert.SwaRefIdeal.Gen.facts, Cert.Pre_experts_exist.Gen.facts,
  Cert.MoeIdeal.Value.frame_words, Cert.MoeIdeal.Value.frame_ideal, Cert.MoeIdeal.Value.frame_ref,
  Cert.DenseIdeal.Value.frame_words, Cert.DenseIdeal.Value.frame_ideal, Cert.DenseIdeal.Value.frame_ref,
  Cert.HgrnProjIdeal.Value.frame_words, Cert.HgrnProjIdeal.Value.frame_ideal, Cert.HgrnProjIdeal.Value.frame_ref,
  Cert.SwaProjIdeal.Value.frame_words, Cert.SwaProjIdeal.Value.frame_ideal, Cert.SwaProjIdeal.Value.frame_ref,
  Cert.NsaProjIdeal.Value.frame_words, Cert.NsaProjIdeal.Value.frame_ideal, Cert.NsaProjIdeal.Value.frame_ref,
  Cert.OutIdeal.Value.frame_words, Cert.OutIdeal.Value.frame_ideal, Cert.OutIdeal.Value.frame_ref,
  Cert.SwaIdeal.Value.frame_words, Cert.SwaIdeal.Value.frame_ideal, Cert.SwaIdeal.Value.frame_ref,
  trivial, Cert.MoeIdeal.Value.value, trivial, Cert.DenseIdeal.Value.value,
  trivial, Cert.HgrnProjIdeal.Value.value,
  trivial, Cert.SwaProjIdeal.Value.value,
  trivial, Cert.NsaProjIdeal.Value.value,
  trivial, Cert.OutIdeal.Value.value,
  Cert.SwaIdeal.Value.names, Cert.SwaIdeal.Value.value⟩

end Cert.Proof

end
